-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x640x256 : Shape := ⟨3, ![8, 640, 256]⟩
abbrev S512x16x8192 : Shape := ⟨3, ![512, 16, 8192]⟩
abbrev S4x8192 : Shape := ⟨2, ![4, 8192]⟩
abbrev S5120x256 : Shape := ⟨2, ![5120, 256]⟩
abbrev S5120x8192 : Shape := ⟨2, ![5120, 8192]⟩
abbrev S1728x256 : Shape := ⟨2, ![1728, 256]⟩
abbrev S512x16x512 : Shape := ⟨3, ![512, 16, 512]⟩
abbrev S4x512 : Shape := ⟨2, ![4, 512]⟩
abbrev S1728x512 : Shape := ⟨2, ![1728, 512]⟩
abbrev S1152x8192 : Shape := ⟨2, ![1152, 8192]⟩
abbrev S2048x512 : Shape := ⟨2, ![2048, 512]⟩
abbrev S576x256 : Shape := ⟨2, ![576, 256]⟩
abbrev S576x128 : Shape := ⟨2, ![576, 128]⟩
abbrev S576x128x1 : Shape := ⟨3, ![576, 128, 1]⟩
abbrev S128x16x512 : Shape := ⟨3, ![128, 16, 512]⟩
abbrev S1152x2048 : Shape := ⟨2, ![1152, 2048]⟩
abbrev S1152x512 : Shape := ⟨2, ![1152, 512]⟩
abbrev S576x512 : Shape := ⟨2, ![576, 512]⟩
abbrev S1x512 : Shape := ⟨2, ![1, 512]⟩
abbrev S8x640x8192 : Shape := ⟨3, ![8, 640, 8192]⟩

abbrev nBuf : Space → Nat
  | .hbm => 6
  | .vmem => 11
  | .smem => 0
  | _ => 0

abbrev bufTy : (tb : Table) → Fin (tcTables nBuf tb) → BufTy
  | .hbm, ⟨0, _⟩ => ⟨S8x640x256, .i8⟩
  | .hbm, ⟨1, _⟩ => ⟨S512x16x8192, .i8⟩
  | .hbm, ⟨2, _⟩ => ⟨S4x8192, .f32⟩
  | .hbm, ⟨3, _⟩ => ⟨S5120x256, .i8⟩
  | .hbm, ⟨4, _⟩ => ⟨S5120x8192, .bf16⟩
  | .hbm, ⟨5, _⟩ => ⟨S8x640x8192, .bf16⟩
  | .local _ .vmem, ⟨0, _⟩ => ⟨S1728x256, .i8⟩
  | .local _ .vmem, ⟨1, _⟩ => ⟨S1728x256, .i8⟩
  | .local _ .vmem, ⟨2, _⟩ => ⟨S512x16x512, .i8⟩
  | .local _ .vmem, ⟨3, _⟩ => ⟨S512x16x512, .i8⟩
  | .local _ .vmem, ⟨4, _⟩ => ⟨S4x512, .f32⟩
  | .local _ .vmem, ⟨5, _⟩ => ⟨S4x512, .f32⟩
  | .local _ .vmem, ⟨6, _⟩ => ⟨S1728x512, .bf16⟩
  | .local _ .vmem, ⟨7, _⟩ => ⟨S1728x512, .bf16⟩
  | .local _ .vmem, ⟨8, _⟩ => ⟨S1152x8192, .bf16⟩
  | .local _ .vmem, ⟨9, _⟩ => ⟨S2048x512, .bf16⟩
  | .local _ .vmem, ⟨10, _⟩ => ⟨S1728x512, .f32⟩
  | _, _ => ⟨S8x640x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1728x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1728x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x640x256 : Shape := ⟨3, ![8, 640, 256]⟩
abbrev S512x16x8192 : Shape := ⟨3, ![512, 16, 8192]⟩
abbrev S4x8192 : Shape := ⟨2, ![4, 8192]⟩
abbrev S_ : Shape := ⟨0, ![]⟩
abbrev S8x640x4x64 : Shape := ⟨4, ![8, 640, 4, 64]⟩
abbrev S8x640x4x64x1 : Shape := ⟨5, ![8, 640, 4, 64, 1]⟩
abbrev S1x1x1x1x16 : Shape := ⟨5, ![1, 1, 1, 1, 16]⟩
abbrev S8x640x4x64x16 : Shape := ⟨5, ![8, 640, 4, 64, 16]⟩
abbrev S4x64x2x16x8192 : Shape := ⟨5, ![4, 64, 2, 16, 8192]⟩
abbrev S4x64x1x16x8192 : Shape := ⟨5, ![4, 64, 1, 16, 8192]⟩
abbrev S4x64x16x8192 : Shape := ⟨4, ![4, 64, 16, 8192]⟩
abbrev S8x640x4x64x16x1 : Shape := ⟨6, ![8, 640, 4, 64, 16, 1]⟩
abbrev S1x1x4x64x16x8192 : Shape := ⟨6, ![1, 1, 4, 64, 16, 8192]⟩
abbrev S8x640x4x64x16x8192 : Shape := ⟨6, ![8, 640, 4, 64, 16, 8192]⟩
abbrev S8x640x4x8192 : Shape := ⟨4, ![8, 640, 4, 8192]⟩
abbrev S8192x8x640 : Shape := ⟨3, ![8192, 8, 640]⟩
abbrev S8x640x8192 : Shape := ⟨3, ![8, 640, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8x640x256, .i8⟩
  | .hbm, ⟨1, _⟩ => ⟨S512x16x8192, .i8⟩
  | .hbm, ⟨2, _⟩ => ⟨S4x8192, .f32⟩
  | .hbm, ⟨3, _⟩ => ⟨S8x640x256, .i32⟩
  | .hbm, ⟨4, _⟩ => ⟨S_, .i32⟩
  | .hbm, ⟨5, _⟩ => ⟨S8x640x256, .i32⟩
  | .hbm, ⟨6, _⟩ => ⟨S8x640x256, .i32⟩
  | .hbm, ⟨7, _⟩ => ⟨S8x640x4x64, .i32⟩
  | .hbm, ⟨8, _⟩ => ⟨S_, .i32⟩
  | .hbm, ⟨9, _⟩ => ⟨S8x640x256, .i32⟩
  | .hbm, ⟨10, _⟩ => ⟨S8x640x256, .i32⟩
  | .hbm, ⟨11, _⟩ => ⟨S8x640x4x64, .i32⟩
  | .hbm, ⟨12, _⟩ => ⟨S8x640x4x64x1, .i32⟩
  | .hbm, ⟨13, _⟩ => ⟨S1x1x1x1x16, .i32⟩
  | .hbm, ⟨14, _⟩ => ⟨S8x640x4x64x16, .i32⟩
  | .hbm, ⟨15, _⟩ => ⟨S8x640x4x64x16, .i32⟩
  | .hbm, ⟨16, _⟩ => ⟨S8x640x4x64x16, .i1⟩
  | .hbm, ⟨17, _⟩ => ⟨S8x640x4x64x16, .i32⟩
  | .hbm, ⟨18, _⟩ => ⟨S8x640x4x64x1, .i32⟩
  | .hbm, ⟨19, _⟩ => ⟨S1x1x1x1x16, .i32⟩
  | .hbm, ⟨20, _⟩ => ⟨S8x640x4x64x16, .i32⟩
  | .hbm, ⟨21, _⟩ => ⟨S8x640x4x64x16, .i32⟩
  | .hbm, ⟨22, _⟩ => ⟨S8x640x4x64x16, .i1⟩
  | .hbm, ⟨23, _⟩ => ⟨S8x640x4x64x16, .i32⟩
  | .hbm, ⟨24, _⟩ => ⟨S512x16x8192, .i32⟩
  | .hbm, ⟨25, _⟩ => ⟨S4x64x2x16x8192, .i32⟩
  | .hbm, ⟨26, _⟩ => ⟨S4x64x1x16x8192, .i32⟩
  | .hbm, ⟨27, _⟩ => ⟨S4x64x16x8192, .i32⟩
  | .hbm, ⟨28, _⟩ => ⟨S4x64x1x16x8192, .i32⟩
  | .hbm, ⟨29, _⟩ => ⟨S4x64x16x8192, .i32⟩
  | .hbm, ⟨30, _⟩ => ⟨S8x640x4x64x16x1, .i32⟩
  | .hbm, ⟨31, _⟩ => ⟨S1x1x4x64x16x8192, .i32⟩
  | .hbm, ⟨32, _⟩ => ⟨S8x640x4x64x16x8192, .i32⟩
  | .hbm, ⟨33, _⟩ => ⟨S8x640x4x64x16x8192, .i32⟩
  | .hbm, ⟨34, _⟩ => ⟨S8x640x4x64x16x8192, .i32⟩
  | .hbm, ⟨35, _⟩ => ⟨S_, .i32⟩
  | .hbm, ⟨36, _⟩ => ⟨S8x640x4x8192, .i32⟩
  | .hbm, ⟨37, _⟩ => ⟨S8x640x4x64x16x1, .i32⟩
  | .hbm, ⟨38, _⟩ => ⟨S1x1x4x64x16x8192, .i32⟩
  | .hbm, ⟨39, _⟩ => ⟨S8x640x4x64x16x8192, .i32⟩
  | .hbm, ⟨40, _⟩ => ⟨S8x640x4x64x16x8192, .i32⟩
  | .hbm, ⟨41, _⟩ => ⟨S8x640x4x64x16x8192, .i32⟩
  | .hbm, ⟨42, _⟩ => ⟨S_, .i32⟩
  | .hbm, ⟨43, _⟩ => ⟨S8x640x4x8192, .i32⟩
  | .hbm, ⟨44, _⟩ => ⟨S8x640x4x8192, .i32⟩
  | .hbm, ⟨45, _⟩ => ⟨S8x640x4x8192, .f32⟩
  | .hbm, ⟨46, _⟩ => ⟨S8192x8x640, .f32⟩
  | .hbm, ⟨47, _⟩ => ⟨S8x640x8192, .f32⟩
  | .hbm, ⟨48, _⟩ => ⟨S8x640x8192, .bf16⟩
  | _, _ => ⟨S8x640x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Kernel.Body.lean ====
/-
  The kernel's body as a whole, run once for each of its two paths: at a first column block (`runFirst`: the packed
  one-hot operand is built into its scratch), and at a later one (`runLater`: the scratch is read as it was left).
  Each run's witness is the contents the body leaves: the result block, and at the first column block the operand scratch.
-/
module

public import proofs.«01_k».proof.Proof.Gen.Kernel.Frame
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the buffer behind the memref `M`. -/
abbrev Bf (c : Dev nD) {sp : Space} {S : Shape} {e : EltTy} (M : Memref sig .tc sp S e) : Type := Buf (Elt F) (M.view.loc (c : Thread nD τ))
/-- The whole of `M`'s buffer, held at the contents `f`. -/
abbrev pt (c : Dev nD) {sp : Space} {S : Shape} {e : EltTy} (M : Memref sig .tc sp S e) (f : Bf (F := F) c M) : sProp 𝕄 :=
  M.view.loc (c : Thread nD τ) ↦{fullShare} f

/-- Owning a whole memref at `X` is holding its buffer at some contents that read as `X`. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns; rw [h.set_eq_univ]

/-- Holding the buffer at contents that read as `X` is owning the memref at `X`. -/
theorem owns_of_pt (c : Dev nD) {sp : Space} {S : Shape} {e : EltTy} (M : Memref sig .tc sp S e) (h : M.IsWhole) (f : Bf (F := F) c M)
    (X : S.Idx → Elt F e) (hf : M.view.read (Elt F) f = X) :
    pt c M f ⊢ (owns (c : Thread nD τ) M fullShare X : sProp 𝕄) := by
  unfold owns; rw [h.set_eq_univ]
  iintro H; iexists f; isplitr; · ipureintro; exact hf
  iexact H

/-- The body at a first column block. -/
def runFirst (c : Dev nD) (i : grid0.Coords)
    (hc : Scalar.cmpi .ne (Scalar.extui (Scalar.cmpi .eq (BitVec.ofNat 32 (i 1).val) 0#32)) 0#32 = 1#1)
    (M2 : Memref sig .tc .vmem S1728x256 .i8) (h2 : M2.IsWhole)
    (M3 : Memref sig .tc .vmem S512x16x512 .i8) (h3 : M3.IsWhole)
    (M4 : Memref sig .tc .vmem S4x512 .f32) (h4 : M4.IsWhole)
    (M5 : Memref sig .tc .vmem S1728x512 .bf16) (h5 : M5.IsWhole)
    (M6 : Memref sig .tc .vmem S1152x8192 .bf16) (h6 : M6.IsWhole)
    (M7 : Memref sig .tc .vmem S2048x512 .bf16) (h7 : M7.IsWhole)
    (M8 : Memref sig .tc .vmem S1728x512 .f32) (h8 : M8.IsWhole)
    (f2 : Bf (F := F) c M2) (f3 : Bf (F := F) c M3) (f4 : Bf (F := F) c M4) :
    { W : Bf (F := F) c M5 × Bf (F := F) c M6 //
      ∀ (f5 : Bf (F := F) c M5) (f6 : Bf (F := F) c M6) (f7 : Bf (F := F) c M7) (f8 : Bf (F := F) c M8)
        (E : Set ℕ) (Q : PUnit → sProp 𝕄),
        iprop(pt c M2 f2 ∗ pt c M3 f3 ∗ pt c M4 f4 ∗ pt c M5 f5 ∗ pt c M6 f6 ∗ pt c M7 f7 ∗ pt c M8 f8
          ∗ (iprop(pt c M2 f2 ∗ pt c M3 f3 ∗ pt c M4 f4 ∗ pt c M5 W.1 ∗ pt c M6 W.2
                ∗ (∃ f, pt c M7 f) ∗ (∃ f, pt c M8 f)) -∗ Q ⟨⟩))
        ⊢ wp frame (wpE (defs₀ (F := F)) Variants.none c none) E
            (cc0_pq_lut i M2 h2 M3 h3 M4 h4 M5 h5 M6 h6 M7 h7 M8 h8) Q } := by
  refine ⟨⟨?_, ?_⟩, fun f5 f6 f7 f8 E Q => ?run⟩
  case run =>
    iintro ⟨H2, H3, H4, H5, H6, H7, H8, Hk⟩
    set_option sl_exec.resultNames true in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body at a later column block: the codes' buffer is not touched, the operand scratch is only read. -/
def runLater (c : Dev nD) (i : grid0.Coords)
    (hc : ¬ Scalar.cmpi .ne (Scalar.extui (Scalar.cmpi .eq (BitVec.ofNat 32 (i 1).val) 0#32)) 0#32 = 1#1)
    (M2 : Memref sig .tc .vmem S1728x256 .i8) (h2 : M2.IsWhole)
    (M3 : Memref sig .tc .vmem S512x16x512 .i8) (h3 : M3.IsWhole)
    (M4 : Memref sig .tc .vmem S4x512 .f32) (h4 : M4.IsWhole)
    (M5 : Memref sig .tc .vmem S1728x512 .bf16) (h5 : M5.IsWhole)
    (M6 : Memref sig .tc .vmem S1152x8192 .bf16) (h6 : M6.IsWhole)
    (M7 : Memref sig .tc .vmem S2048x512 .bf16) (h7 : M7.IsWhole)
    (M8 : Memref sig .tc .vmem S1728x512 .f32) (h8 : M8.IsWhole)
    (f3 : Bf (F := F) c M3) (f4 : Bf (F := F) c M4) (f6 : Bf (F := F) c M6) :
    { W : Bf (F := F) c M5 //
      ∀ (f5 : Bf (F := F) c M5) (f7 : Bf (F := F) c M7) (f8 : Bf (F := F) c M8)
        (E : Set ℕ) (Q : PUnit → sProp 𝕄),
        iprop(pt c M3 f3 ∗ pt c M4 f4 ∗ pt c M5 f5 ∗ pt c M6 f6 ∗ pt c M7 f7 ∗ pt c M8 f8
          ∗ (iprop(pt c M3 f3 ∗ pt c M4 f4 ∗ pt c M5 W ∗ pt c M6 f6
                ∗ (∃ f, pt c M7 f) ∗ (∃ f, pt c M8 f)) -∗ Q ⟨⟩))
        ⊢ wp frame (wpE (defs₀ (F := F)) Variants.none c none) E
            (cc0_pq_lut i M2 h2 M3 h3 M4 h4 M5 h5 M6 h6 M7 h7 M8 h8) Q } := by
  refine ⟨?_, fun f5 f7 f8 E Q => ?run⟩
  case run =>
    iintro ⟨H3, H4, H5, H6, H7, H8, Hk⟩
    set_option sl_exec.resultNames true in
    sl_exec_parts!
    sl_step
    iapply Hk
    isplitl [H3]; · iexact H3
    isplitl [H4]; · iexact H4
    isplitl [H5]; · iexact H5
    isplitl [H6]; · iexact H6
    isplitl [H7]; · iexists _; iexact H7
    iexists _; iexact H8

end Cert.Kernel.Body

end
-- ==== Proof.Kernel.Run.lean ====
/-
  The kernel at the bit-exact instance terminates, faults nowhere and leaves its arguments as they were. Nothing is said
  of what the buffers hold: every window is handed to the body, and taken back, at some contents.
-/
module

public import proofs.«01_k».proof.Proof.Kernel.Body

@[expose] public section

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, nothing named of the blocks, the invariant the scratch buffers
    at some contents each. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The body's obligation: on either path, one of the two runs of `Body`. -/
theorem body_obligation (c : Dev nD) : BodyObligationLoose (dats m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  change _ ⊢ wp Idealize.ShloMosaic.frame (wpE (defs₀ (F := F)) Variants.none c none) Set.univ (bodyAt0 t) _
  unfold bodyAt0
  iintro ⟨⟨⟨⟨%f6, H6⟩, ⟨%f7, H7⟩, ⟨%f8, H8⟩⟩, Hρ⟩, Ho, ⟨%X0, H2⟩, ⟨%X1, H3⟩, ⟨%X2, H4⟩, ⟨%X3, H5⟩⟩
  ihave H2 := (pt_of_owns c _ (stage_whole0 0 _) X0) $$ H2
  icases H2 with ⟨%f2, -, H2⟩
  ihave H3 := (pt_of_owns c _ (stage_whole0 1 _) X1) $$ H3
  icases H3 with ⟨%f3, -, H3⟩
  ihave H4 := (pt_of_owns c _ (stage_whole0 2 _) X2) $$ H4
  icases H4 with ⟨%f4, -, H4⟩
  ihave H5 := (pt_of_owns c _ (stage_whole0 3 _) X3) $$ H5
  icases H5 with ⟨%f5, -, H5⟩
  by_cases hc : Scalar.cmpi .ne (Scalar.extui (Scalar.cmpi .eq (BitVec.ofNat 32 (grid0.coords t 1).val) 0#32)) 0#32 = 1#1
  · iapply ((runFirst (F := F) c (grid0.coords t) hc _ _ _ _ _ _ _ _ (.whole cc0_scratch0) (Memref.isWhole_whole _) (.whole cc0_scratch1) (Memref.isWhole_whole _)
      (.whole cc0_scratch2) (Memref.isWhole_whole _) f2 f3 f4).2 f5 f6 f7 f8 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, ⟨%g7, H7⟩, ⟨%g8, H8⟩⟩
    isplitl [H6 H7 H8 Hρ]
    · isplitl [H6 H7 H8]
      · isplitl [H6]; · iexists _; iexact H6
        isplitl [H7]; · iexists _; iexact H7
        iexists _; iexact H8
      iexact Hρ
    isplitl [Ho]; · iexact Ho
    isplitl [H2]; · iexists _; iapply (owns_of_pt c _ (stage_whole0 0 _) _ _ rfl); iexact H2
    isplitl [H3]; · iexists _; iapply (owns_of_pt c _ (stage_whole0 1 _) _ _ rfl); iexact H3
    isplitl [H4]; · iexists _; iapply (owns_of_pt c _ (stage_whole0 2 _) _ _ rfl); iexact H4
    iexists _; iapply (owns_of_pt c _ (stage_whole0 3 _) _ _ rfl); iexact H5
  · iapply ((runLater (F := F) c (grid0.coords t) hc _ _ _ _ _ _ _ _ (.whole cc0_scratch0) (Memref.isWhole_whole _) (.whole cc0_scratch1) (Memref.isWhole_whole _)
      (.whole cc0_scratch2) (Memref.isWhole_whole _) f3 f4 f6).2 f5 f7 f8 Set.univ _)
    isplitl [H3]; · iexact H3
    isplitl [H4]; · iexact H4
    isplitl [H5]; · iexact H5
    isplitl [H6]; · iexact H6
    isplitl [H7]; · iexact H7
    isplitl [H8]; · iexact H8
    iintro ⟨H3, H4, H5, H6, ⟨%g7, H7⟩, ⟨%g8, H8⟩⟩
    isplitl [H6 H7 H8 Hρ]
    · isplitl [H6 H7 H8]
      · isplitl [H6]; · iexists _; iexact H6
        isplitl [H7]; · iexists _; iexact H7
        iexists _; iexact H8
      iexact Hρ
    isplitl [Ho]; · iexact Ho
    isplitl [H2]; · iexists _; iapply (owns_of_pt c _ (stage_whole0 0 _) _ _ rfl); iexact H2
    isplitl [H3]; · iexists _; iapply (owns_of_pt c _ (stage_whole0 1 _) _ _ rfl); iexact H3
    isplitl [H4]; · iexists _; iapply (owns_of_pt c _ (stage_whole0 2 _) _ _ rfl); iexact H4
    iexists _; iapply (owns_of_pt c _ (stage_whole0 3 _) _ _ rfl); iexact H5

/-- What a final state satisfies: the arguments as they were. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- The run: every weakly fair execution terminates, the arguments are left as they were and every counter at zero. -/
theorem run_main : θ_run defs (onTc (τ := τ) (main (F := F))) (s₀ m ρ) (fun r => ArgsKept m r ∧ r.2.sem = fun _ => 0) :=
  Pipeline.θ_run_frame_around_T_forget cfgs (dats m) 0 launch0 defs₀ Variants.none (fun _ => true) {main_v2} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      rw [StableHlo.reshape_writes, Finset.mem_singleton] at hb
      have := Proc.devRef_injective .tc hb
      rw [this]; exact Finset.mem_singleton_self _)
    (hmain := hmain m Variants.none) (hA := fun _ _ => rfl) (hΦ := fun _ _ => rfl)
    (Q' := fun r => ArgsKept m r ∧ r.2.sem = fun _ => 0)
    (hQ' := fun r h => ⟨fun c =>
      ⟨((h.1 c).2 main_arg0 (Finset.mem_sdiff.mpr ⟨Pipeline.mem_restRefs_of main_arg0 (by decide) (by decide), by decide⟩)).trans (V_main_arg0 m c),
        (h.1.arr_in c 1 rfl).trans (V_main_arg1 m c), (h.1.arr_in c 2 rfl).trans (V_main_arg2 m c)⟩, h.2⟩)

end Cert.Kernel.Run

end
-- ==== Proof.KernelIdeal.Body.lean ====
/-
  The kernel's body as a whole, run once for each of its two paths: at a first column block (`runFirst`: the packed
  one-hot operand is built into its scratch), and at a later one (`runLater`: the scratch is read as it was left).
  Each run's witness is the contents the body leaves: the result block, and at the first column block the operand scratch.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the buffer behind the memref `M`. -/
abbrev Bf (c : Dev nD) {sp : Space} {S : Shape} {e : EltTy} (M : Memref sig .tc sp S e) : Type := Buf (Elt F) (M.view.loc (c : Thread nD τ))
/-- The whole of `M`'s buffer, held at the contents `f`. -/
abbrev pt (c : Dev nD) {sp : Space} {S : Shape} {e : EltTy} (M : Memref sig .tc sp S e) (f : Bf (F := F) c M) : sProp 𝕄 :=
  M.view.loc (c : Thread nD τ) ↦{fullShare} f

/-- Owning a whole memref at `X` is holding its buffer at some contents that read as `X`. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns; rw [h.set_eq_univ]

/-- Holding the buffer at contents that read as `X` is owning the memref at `X`. -/
theorem owns_of_pt (c : Dev nD) {sp : Space} {S : Shape} {e : EltTy} (M : Memref sig .tc sp S e) (h : M.IsWhole) (f : Bf (F := F) c M)
    (X : S.Idx → Elt F e) (hf : M.view.read (Elt F) f = X) :
    pt c M f ⊢ (owns (c : Thread nD τ) M fullShare X : sProp 𝕄) := by
  unfold owns; rw [h.set_eq_univ]
  iintro H; iexists f; isplitr; · ipureintro; exact hf
  iexact H

/-- The body at a first column block. -/
def runFirst (c : Dev nD) (i : grid0.Coords)
    (hc : Scalar.cmpi .ne (Scalar.extui (Scalar.cmpi .eq (BitVec.ofNat 32 (i 1).val) 0#32)) 0#32 = 1#1)
    (M2 : Memref sig .tc .vmem S1728x256 .i8) (h2 : M2.IsWhole)
    (M3 : Memref sig .tc .vmem S512x16x512 .i8) (h3 : M3.IsWhole)
    (M4 : Memref sig .tc .vmem S4x512 .f32) (h4 : M4.IsWhole)
    (M5 : Memref sig .tc .vmem S1728x512 .bf16) (h5 : M5.IsWhole)
    (M6 : Memref sig .tc .vmem S1152x8192 .bf16) (h6 : M6.IsWhole)
    (M7 : Memref sig .tc .vmem S2048x512 .bf16) (h7 : M7.IsWhole)
    (M8 : Memref sig .tc .vmem S1728x512 .f32) (h8 : M8.IsWhole)
    (f2 : Bf (F := F) c M2) (f3 : Bf (F := F) c M3) (f4 : Bf (F := F) c M4) :
    { W : Bf (F := F) c M5 × Bf (F := F) c M6 //
      ∀ (f5 : Bf (F := F) c M5) (f6 : Bf (F := F) c M6) (f7 : Bf (F := F) c M7) (f8 : Bf (F := F) c M8)
        (E : Set ℕ) (Q : PUnit → sProp 𝕄),
        iprop(pt c M2 f2 ∗ pt c M3 f3 ∗ pt c M4 f4 ∗ pt c M5 f5 ∗ pt c M6 f6 ∗ pt c M7 f7 ∗ pt c M8 f8
          ∗ (iprop(pt c M2 f2 ∗ pt c M3 f3 ∗ pt c M4 f4 ∗ pt c M5 W.1 ∗ pt c M6 W.2
                ∗ (∃ f, pt c M7 f) ∗ (∃ f, pt c M8 f)) -∗ Q ⟨⟩))
        ⊢ wp frame (wpE (defs₀ (F := F)) Variants.none c none) E
            (cc0_pq_lut i M2 h2 M3 h3 M4 h4 M5 h5 M6 h6 M7 h7 M8 h8) Q } := by
  refine ⟨⟨?_, ?_⟩, fun f5 f6 f7 f8 E Q => ?run⟩
  case run =>
    iintro ⟨H2, H3, H4, H5, H6, H7, H8, Hk⟩
    set_option sl_exec.resultNames true in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body at a later column block: the codes' buffer is not touched, the operand scratch is only read. -/
def runLater (c : Dev nD) (i : grid0.Coords)
    (hc : ¬ Scalar.cmpi .ne (Scalar.extui (Scalar.cmpi .eq (BitVec.ofNat 32 (i 1).val) 0#32)) 0#32 = 1#1)
    (M2 : Memref sig .tc .vmem S1728x256 .i8) (h2 : M2.IsWhole)
    (M3 : Memref sig .tc .vmem S512x16x512 .i8) (h3 : M3.IsWhole)
    (M4 : Memref sig .tc .vmem S4x512 .f32) (h4 : M4.IsWhole)
    (M5 : Memref sig .tc .vmem S1728x512 .bf16) (h5 : M5.IsWhole)
    (M6 : Memref sig .tc .vmem S1152x8192 .bf16) (h6 : M6.IsWhole)
    (M7 : Memref sig .tc .vmem S2048x512 .bf16) (h7 : M7.IsWhole)
    (M8 : Memref sig .tc .vmem S1728x512 .f32) (h8 : M8.IsWhole)
    (f3 : Bf (F := F) c M3) (f4 : Bf (F := F) c M4) (f6 : Bf (F := F) c M6) :
    { W : Bf (F := F) c M5 //
      ∀ (f5 : Bf (F := F) c M5) (f7 : Bf (F := F) c M7) (f8 : Bf (F := F) c M8)
        (E : Set ℕ) (Q : PUnit → sProp 𝕄),
        iprop(pt c M3 f3 ∗ pt c M4 f4 ∗ pt c M5 f5 ∗ pt c M6 f6 ∗ pt c M7 f7 ∗ pt c M8 f8
          ∗ (iprop(pt c M3 f3 ∗ pt c M4 f4 ∗ pt c M5 W ∗ pt c M6 f6
                ∗ (∃ f, pt c M7 f) ∗ (∃ f, pt c M8 f)) -∗ Q ⟨⟩))
        ⊢ wp frame (wpE (defs₀ (F := F)) Variants.none c none) E
            (cc0_pq_lut i M2 h2 M3 h3 M4 h4 M5 h5 M6 h6 M7 h7 M8 h8) Q } := by
  refine ⟨?_, fun f5 f7 f8 E Q => ?run⟩
  case run =>
    iintro ⟨H3, H4, H5, H6, H7, H8, Hk⟩
    set_option sl_exec.resultNames true in
    sl_exec_parts!
    sl_step
    iapply Hk
    isplitl [H3]; · iexact H3
    isplitl [H4]; · iexact H4
    isplitl [H5]; · iexact H5
    isplitl [H6]; · iexact H6
    isplitl [H7]; · iexists _; iexact H7
    iexists _; iexact H8

end Cert.KernelIdeal.Body

end
-- ==== Proof.KernelIdeal.Run.lean ====
/-
  The kernel at the bit-exact instance terminates, faults nowhere and leaves its arguments as they were. Nothing is said
  of what the buffers hold: every window is handed to the body, and taken back, at some contents.
-/
module

public import proofs.«01_k».proof.Proof.KernelIdeal.Body

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, nothing named of the blocks, the invariant the scratch buffers
    at some contents each. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The body's obligation: on either path, one of the two runs of `Body`. -/
theorem body_obligation (c : Dev nD) : BodyObligationLoose (dats m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  change _ ⊢ wp Idealize.ShloMosaic.frame (wpE (defs₀ (F := F)) Variants.none c none) Set.univ (bodyAt0 t) _
  unfold bodyAt0
  iintro ⟨⟨⟨⟨%f6, H6⟩, ⟨%f7, H7⟩, ⟨%f8, H8⟩⟩, Hρ⟩, Ho, ⟨%X0, H2⟩, ⟨%X1, H3⟩, ⟨%X2, H4⟩, ⟨%X3, H5⟩⟩
  ihave H2 := (pt_of_owns c _ (stage_whole0 0 _) X0) $$ H2
  icases H2 with ⟨%f2, -, H2⟩
  ihave H3 := (pt_of_owns c _ (stage_whole0 1 _) X1) $$ H3
  icases H3 with ⟨%f3, -, H3⟩
  ihave H4 := (pt_of_owns c _ (stage_whole0 2 _) X2) $$ H4
  icases H4 with ⟨%f4, -, H4⟩
  ihave H5 := (pt_of_owns c _ (stage_whole0 3 _) X3) $$ H5
  icases H5 with ⟨%f5, -, H5⟩
  by_cases hc : Scalar.cmpi .ne (Scalar.extui (Scalar.cmpi .eq (BitVec.ofNat 32 (grid0.coords t 1).val) 0#32)) 0#32 = 1#1
  · iapply ((runFirst (F := F) c (grid0.coords t) hc _ _ _ _ _ _ _ _ (.whole cc0_scratch0) (Memref.isWhole_whole _) (.whole cc0_scratch1) (Memref.isWhole_whole _)
      (.whole cc0_scratch2) (Memref.isWhole_whole _) f2 f3 f4).2 f5 f6 f7 f8 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, ⟨%g7, H7⟩, ⟨%g8, H8⟩⟩
    isplitl [H6 H7 H8 Hρ]
    · isplitl [H6 H7 H8]
      · isplitl [H6]; · iexists _; iexact H6
        isplitl [H7]; · iexists _; iexact H7
        iexists _; iexact H8
      iexact Hρ
    isplitl [Ho]; · iexact Ho
    isplitl [H2]; · iexists _; iapply (owns_of_pt c _ (stage_whole0 0 _) _ _ rfl); iexact H2
    isplitl [H3]; · iexists _; iapply (owns_of_pt c _ (stage_whole0 1 _) _ _ rfl); iexact H3
    isplitl [H4]; · iexists _; iapply (owns_of_pt c _ (stage_whole0 2 _) _ _ rfl); iexact H4
    iexists _; iapply (owns_of_pt c _ (stage_whole0 3 _) _ _ rfl); iexact H5
  · iapply ((runLater (F := F) c (grid0.coords t) hc _ _ _ _ _ _ _ _ (.whole cc0_scratch0) (Memref.isWhole_whole _) (.whole cc0_scratch1) (Memref.isWhole_whole _)
      (.whole cc0_scratch2) (Memref.isWhole_whole _) f3 f4 f6).2 f5 f7 f8 Set.univ _)
    isplitl [H3]; · iexact H3
    isplitl [H4]; · iexact H4
    isplitl [H5]; · iexact H5
    isplitl [H6]; · iexact H6
    isplitl [H7]; · iexact H7
    isplitl [H8]; · iexact H8
    iintro ⟨H3, H4, H5, H6, ⟨%g7, H7⟩, ⟨%g8, H8⟩⟩
    isplitl [H6 H7 H8 Hρ]
    · isplitl [H6 H7 H8]
      · isplitl [H6]; · iexists _; iexact H6
        isplitl [H7]; · iexists _; iexact H7
        iexists _; iexact H8
      iexact Hρ
    isplitl [Ho]; · iexact Ho
    isplitl [H2]; · iexists _; iapply (owns_of_pt c _ (stage_whole0 0 _) _ _ rfl); iexact H2
    isplitl [H3]; · iexists _; iapply (owns_of_pt c _ (stage_whole0 1 _) _ _ rfl); iexact H3
    isplitl [H4]; · iexists _; iapply (owns_of_pt c _ (stage_whole0 2 _) _ _ rfl); iexact H4
    iexists _; iapply (owns_of_pt c _ (stage_whole0 3 _) _ _ rfl); iexact H5

/-- What a final state satisfies: the arguments as they were. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- The run: every weakly fair execution terminates, the arguments are left as they were and every counter at zero. -/
theorem run_main : θ_run defs (onTc (τ := τ) (main (F := F))) (s₀ m ρ) (fun r => ArgsKept m r ∧ r.2.sem = fun _ => 0) :=
  Pipeline.θ_run_frame_around_T_forget cfgs (dats m) 0 launch0 defs₀ Variants.none (fun _ => true) {main_v2} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      rw [StableHlo.reshape_writes, Finset.mem_singleton] at hb
      have := Proc.devRef_injective .tc hb
      rw [this]; exact Finset.mem_singleton_self _)
    (hmain := hmain m Variants.none) (hA := fun _ _ => rfl) (hΦ := fun _ _ => rfl)
    (Q' := fun r => ArgsKept m r ∧ r.2.sem = fun _ => 0)
    (hQ' := fun r h => ⟨fun c =>
      ⟨((h.1 c).2 main_arg0 (Finset.mem_sdiff.mpr ⟨Pipeline.mem_restRefs_of main_arg0 (by decide) (by decide), by decide⟩)).trans (V_main_arg0 m c),
        (h.1.arr_in c 1 rfl).trans (V_main_arg1 m c), (h.1.arr_in c 2 rfl).trans (V_main_arg2 m c)⟩, h.2⟩)

end Cert.KernelIdeal.Run

end
-- ==== Proof.KernelIdeal.Tiles.lean ====
/-
  The packed one-hot operand, tile by tile. The body writes it in 64 column tiles of 128 lanes, each in two halves of
  rows; every tile is the same function of the packed words (three tokens' bytes in one 32-bit word) and of the tile's
  number. The list of writes the run of the body leaves (`Body.runFirst`) is that family, written out.
-/
module

public import proofs.«01_k».proof.Proof.KernelIdeal.Body

@[expose] public section

set_option maxRecDepth 16384

noncomputable section

namespace Cert.KernelIdeal.Tiles

open Cert.KernelIdeal Cert.KernelIdeal.Gen Cert.KernelIdeal.Body
open Idealize.ShloMosaic Idealize.ShloMosaic.TcCoe

variable {F : FTy → Type} [FloatOps F]

/-- A lane's number. -/
def lane : IVec S576x128 32 := iota .tc S576x128 32 [1] iota_S576x128_d1_w32

/-- The amount a lane's word is shifted by: four for an odd group of sixteen lanes, else nothing. -/
def shift : IVec S576x128 32 := k0_pay10 lane 16#32 k0_pay8 k0_pay9

/-- A lane's number divided by 32. -/
def lane32 : IVec S576x128 32 :=
  select (andi (cmpi .ne (k0_pay13 lane) (broadcast S576x128 (Scalar.subi (Scalar.extui (Scalar.cmpi .sgt 32#32 0#32)) (Scalar.extui (Scalar.cmpi .slt 32#32 0#32)))))
      (cmpi .ne (remsi lane (broadcast S576x128 32#32)) (broadcast S576x128 0#32)))
    (subi (k0_pay12 lane) (broadcast S576x128 1#32)) (k0_pay12 lane)

/-- The columns a lane of a tile takes its word from, for the tile whose first column is `b`. -/
def column (b : BitVec 32) : IVec S576x128 32 :=
  select (cmpi .slt (addi lane32 (broadcast S576x128 b)) (broadcast S576x128 0#32))
    (addi (addi lane32 (broadcast S576x128 b)) (broadcast S576x128 128#32)) (addi lane32 (broadcast S576x128 b))

/-- The words' left half of columns, and their right half. -/
def half (w : IVec S576x256 32) (t : ℕ) : IVec S576x128 32 :=
  if t < 32 then extractStridedSlice S576x128 ![0, 0] w slices_S576x256_o0_0_S576x128
  else extractStridedSlice S576x128 ![0, 128] w slices_S576x256_o0_128_S576x128

/-- The word each lane of tile `t` reads, shifted so that the lane's nibble is lowest. -/
def word (w : IVec S576x256 32) (t : ℕ) : IVec S576x128 32 :=
  shrui (dynamicGather 1 (half w t) (shapeCast S576x128 (shapeCast S576x128x1 (column (BitVec.ofNat 32 (4 * (t % 32)))) shapeCasts_S576x128_S576x128x1) shapeCasts_S576x128x1_S576x128)) shift

/-- Whether the nibble of the word's byte 0, 1, 2 is the lane's centroid. -/
def hit0 (w : IVec S576x256 32) (t : ℕ) : IVec S576x128 1 :=
  cmpi .eq (andi (word w t) (broadcast S576x128 15#32)) k0_pay7
def hit (w : IVec S576x256 32) (t : ℕ) (s : BitVec 32) : IVec S576x128 1 :=
  cmpi .eq (andi (shrsi (word w t) (broadcast S576x128 s)) (broadcast S576x128 15#32)) k0_pay7

/-- One where the bit is set. -/
def one (b : IVec S576x128 1) : FVec F S576x128 .f32 :=
  select b (broadcast S576x128 (Scalar.ofBits .f32 0x3F800000#32)) (broadcast S576x128 (Scalar.ofBits .f32 0x00000000#32))
/-- Minus 256 where the bit is set. -/
def neg (b : IVec S576x128 1) : FVec F S576x128 .f32 :=
  select b (broadcast S576x128 (Scalar.ofBits .f32 0xC3800000#32)) (broadcast S576x128 (Scalar.ofBits .f32 0x00000000#32))

/-- Tile `t` of the upper rows and of the lower rows. -/
def upper (w : IVec S576x256 32) (t : ℕ) : FVec F S576x128 .bf16 :=
  shapeCast S576x128 (truncf .bf16 (addf (one (hit0 w t)) (neg (hit w t 8#32))) bitsLt_bf16_f32) shapeCasts_S576x128_S576x128
def lower (w : IVec S576x256 32) (t : ℕ) : FVec F S576x128 .bf16 :=
  shapeCast S576x128 (truncf .bf16 (addf (one (hit w t 16#32)) (neg (hit0 w t))) bitsLt_bf16_f32) shapeCasts_S576x128_S576x128

theorem inb_tile (r n : ℕ) (hr : r ≤ 576) (hn : n < 64) : ∀ a, (![r, 128 * n] : Fin 2 → ℕ) a + S576x128.size a ≤ S1152x8192.size a
  | ⟨0, _⟩ => by show r + 576 ≤ 1152; omega
  | ⟨1, _⟩ => by show 128 * n + 128 ≤ 8192; omega

/-- The writes of the first `n` tiles, the last first. -/
def pieces (w : IVec S576x256 32) : (n : ℕ) → n ≤ 64 → List (View.Piece (Elt F) S1152x8192 .bf16)
  | 0, _ => []
  | n + 1, h =>
    ⟨Rect.unit ![576, 128 * n] S576x128.size (inb_tile 576 n (le_refl _) h), lower w n⟩
      :: ⟨Rect.unit ![0, 128 * n] S576x128.size (inb_tile 0 n (Nat.zero_le _) h), upper w n⟩
      :: pieces w n (Nat.le_of_succ_le h)

/-- The packed words of a block of codes. -/
def words (X : Vec F S1728x256 .i8) : IVec S576x256 32 := k0_pay6 X

/-- The operand scratch after the run at a first column block. -/
theorem writes_eq (c : Dev nD) (M2 : Memref sig .tc .vmem S1728x256 .i8) (f2 : Bf (F := F) c M2) :
    runFirst.sl.H6_128 c M2 f2
      = pieces (words (View.readAt (Elt F) M2.view (Rect.unit (s := S1728x256) ![0, 0] S1728x256.size inb_S1728x256_S1728x256_0_0).toLoadRect f2)) 64 (le_refl _) := by
  rfl

end Cert.KernelIdeal.Tiles

end
-- ==== Proof.KernelIdeal.Lanes.lean ====
/-
  What each lane of a tile of the packed one-hot operand does: lane `l` of tile `t` reads the word of byte
  `4 t + l / 32`, takes its upper nibble when `l / 16` is odd and its lower one otherwise, and compares it with the
  centroid `l % 16`. All of it is a function of the lane's number, checked lane by lane.
-/
module

public import proofs.«01_k».proof.Proof.KernelIdeal.Tiles
public import Idealize.ShloMosaic.Lib.ValueIdxCore
public import Idealize.ShloMosaic.Lib.Pipeline.Value

@[expose] public section

set_option maxRecDepth 16384

noncomputable section

namespace Cert.KernelIdeal.Tiles

open Cert.KernelIdeal Cert.KernelIdeal.Gen
open Idealize.ShloMosaic Idealize.ShloMosaic.ValueIdx

theorem shift_lane : ∀ l : Fin 128, shift (ix2 (0 : Fin 576) l) = if l.val / 16 % 2 = 1 then 4#32 else 0#32 := by
  decide +kernel
theorem shift_apply (r : Fin 576) (l : Fin 128) : shift (ix2 r l) = if l.val / 16 % 2 = 1 then 4#32 else 0#32 :=
  (rfl : shift (ix2 r l) = shift (ix2 (0 : Fin 576) l)).trans (shift_lane l)

theorem cent_lane : ∀ l : Fin 128, k0_pay7 (ix2 (0 : Fin 576) l) = BitVec.ofNat 32 (l.val % 16) := by
  decide +kernel
theorem cent_apply (r : Fin 576) (l : Fin 128) : k0_pay7 (ix2 r l) = BitVec.ofNat 32 (l.val % 16) :=
  (rfl : k0_pay7 (ix2 r l) = k0_pay7 (ix2 (0 : Fin 576) l)).trans (cent_lane l)

theorem column_lane : ∀ (b : Fin 32) (l : Fin 128), (column (BitVec.ofNat 32 (4 * b.val)) (ix2 (0 : Fin 576) l)).toNat % 128 = 4 * b.val + l.val / 32 := by
  decide +kernel
theorem column_apply (b : Fin 32) (r : Fin 576) (l : Fin 128) :
    (column (BitVec.ofNat 32 (4 * b.val)) (ix2 r l)).toNat % 128 = 4 * b.val + l.val / 32 :=
  (rfl : (column (BitVec.ofNat 32 (4 * b.val)) (ix2 r l)).toNat % 128 = (column (BitVec.ofNat 32 (4 * b.val)) (ix2 (0 : Fin 576) l)).toNat % 128).trans (column_lane b l)

/-- The words' half at a column of its own. -/
theorem half_apply (w : IVec S576x256 32) (t : ℕ) (ht : t < 64) (r : Fin 576) (q : Fin 128) (b : Fin 256) (hb : b.val = 128 * (t / 32) + q.val) :
    half w t (ix2 r q) = w (ix2 r b) := by
  unfold half
  split <;> refine congrArg w (funext fun a => ?_) <;> refine Fin.ext ?_ <;> fin_cases a
  · exact Nat.zero_add _
  · show 0 + q.val = b.val; omega
  · exact Nat.zero_add _
  · show 128 + q.val = b.val; omega

/-- The word a lane reads: that of byte `4 t + l / 32`, shifted by the lane's amount. -/
theorem word_apply (w : IVec S576x256 32) (t : ℕ) (ht : t < 64) (r : Fin 576) (l : Fin 128) :
    word w t (ix2 r l) = IntOp.shrui .vector (w (ix2 r ⟨4 * t + l.val / 32, by omega⟩)) (if l.val / 16 % 2 = 1 then 4#32 else 0#32) := by
  have hcol := column_apply ⟨t % 32, Nat.mod_lt _ (by omega)⟩ r l
  unfold word
  show IntOp.shrui .vector (dynamicGather 1 (half w t) _ (ix2 r l)) (shift (ix2 r l)) = _
  rw [shift_apply, shapeCast_shapeCast]
  congr 1
  refine Eq.trans ?_ (half_apply w t ht r ⟨4 * (t % 32) + l.val / 32, by omega⟩ _ (by show 4 * t + l.val / 32 = 128 * (t / 32) + (4 * (t % 32) + l.val / 32); omega))
  unfold dynamicGather
  congr 1
  funext a
  fin_cases a
  · rfl
  · exact Fin.ext hcol

end Cert.KernelIdeal.Tiles

end
-- ==== Proof.KernelIdeal.Groups.lean ====
/-
  The result block as a function of the operand scratch, the tables' block and the scales' block: four groups, each one
  matrix product of a quarter of the operand's columns with a quarter of the tables' rows, unpacked into three tokens'
  values per row, scaled and added up. Both runs of the body (`Body.runFirst`, `Body.runLater`) leave exactly that.
-/
module

public import proofs.«01_k».proof.Proof.KernelIdeal.Tiles
public import Idealize.ShloMosaic.Lib.Pipeline.ReadBack
public import Idealize.ShloMosaic.Lib.Pipeline.FrameBody
public import Idealize.ShloMosaic.Lib.VecWindow

@[expose] public section

set_option maxRecDepth 16384

noncomputable section

namespace Cert.KernelIdeal.Groups

open Cert.KernelIdeal Cert.KernelIdeal.Gen Cert.KernelIdeal.Body
open Idealize.ShloMosaic Idealize.ShloMosaic.TcCoe

variable {F : FTy → Type} [FloatOps F]

/-- What a group adds to the first, the second and the third token of each row: the unpacked values times the scales. -/
def addA (l : Vec F S1152x2048 .bf16) (t : Vec F S128x16x512 .i8) (s : Vec F S1x512 .f32) : FVec F S576x512 .f32 :=
  mulf (k0_pay511 l (k0_pay504 t)) (broadcastTo S576x512 s broadcasts_S1x512_S576x512)
def addB (l : Vec F S1152x2048 .bf16) (t : Vec F S128x16x512 .i8) (s : Vec F S1x512 .f32) : FVec F S576x512 .f32 :=
  mulf (k0_pay512 l (k0_pay504 t))
    (broadcastTo S576x512 (mulf s (broadcast S1x512 (Scalar.ofBits .f32 0x3B800000#32))) broadcasts_S1x512_S576x512)
def addC (l : Vec F S1152x2048 .bf16) (t : Vec F S128x16x512 .i8) (s : Vec F S1x512 .f32) : FVec F S576x512 .f32 :=
  mulf (k0_pay510 l (k0_pay504 t)) (broadcastTo S576x512 s broadcasts_S1x512_S576x512)

/-- The four groups' contributions added up and rounded to the result's format. -/
def total (x : Fin 4 → FVec F S576x512 .f32) : FVec F S576x512 .bf16 :=
  truncf .bf16 (addf (x 3) (shapeCast S576x512 (addf (x 2) (shapeCast S576x512 (addf (x 1) (shapeCast S576x512 (x 0)
    shapeCasts_S576x512_S576x512)) shapeCasts_S576x512_S576x512)) shapeCasts_S576x512_S576x512)) bitsLt_bf16_f32

theorem inb_l (g : Fin 4) : ∀ a, (![0, 2048 * g.val] : Fin 2 → ℕ) a + S1152x2048.size a ≤ S1152x8192.size a
  | ⟨0, _⟩ => by show 0 + 1152 ≤ 1152; omega
  | ⟨1, _⟩ => by show 2048 * g.val + 2048 ≤ 8192; omega
theorem inb_t (g : Fin 4) : ∀ a, (![128 * g.val, 0, 0] : Fin 3 → ℕ) a + S128x16x512.size a ≤ S512x16x512.size a
  | ⟨0, _⟩ => by show 128 * g.val + 128 ≤ 512; omega
  | ⟨1, _⟩ => by show 0 + 16 ≤ 16; omega
  | ⟨2, _⟩ => by show 0 + 512 ≤ 512; omega
theorem inb_s (g : Fin 4) : ∀ a, (![g.val, 0] : Fin 2 → ℕ) a + S1x512.size a ≤ S4x512.size a
  | ⟨0, _⟩ => by show g.val + 1 ≤ 4; omega
  | ⟨1, _⟩ => by show 0 + 512 ≤ 512; omega

/-- The columns of the operand, the rows of the tables and the row of the scales that group `g` takes. -/
abbrev rectL (g : Fin 4) : Rect S1152x8192 := Rect.unit ![0, 2048 * g.val] S1152x2048.size (inb_l g)
abbrev rectT (g : Fin 4) : Rect S512x16x512 := Rect.unit ![128 * g.val, 0, 0] S128x16x512.size (inb_t g)
abbrev rectS (g : Fin 4) : Rect S4x512 := Rect.unit ![g.val, 0] S1x512.size (inb_s g)

/-- The three stores into the result block. -/
def stores (l : Fin 4 → Vec F S1152x2048 .bf16) (t : Fin 4 → Vec F S128x16x512 .i8) (s : Fin 4 → Vec F S1x512 .f32) :
    List (View.Piece (Elt F) S1728x512 .bf16) :=
  [⟨Rect.unit ![1152, 0] S576x512.size inb_S1728x512_S576x512_1152_0, total fun g => addC (l g) (t g) (s g)⟩,
   ⟨Rect.unit ![576, 0] S576x512.size inb_S1728x512_S576x512_576_0, total fun g => addB (l g) (t g) (s g)⟩,
   ⟨Rect.unit ![0, 0] S576x512.size inb_S1728x512_S576x512_0_0, total fun g => addA (l g) (t g) (s g)⟩]

section
variable (c : Dev nD) (M2 : Memref sig .tc .vmem S1728x256 .i8) (M3 : Memref sig .tc .vmem S512x16x512 .i8)
  (M4 : Memref sig .tc .vmem S4x512 .f32) (M6 : Memref sig .tc .vmem S1152x8192 .bf16)
  (M7 : Memref sig .tc .vmem S2048x512 .bf16) (M8 : Memref sig .tc .vmem S1728x512 .f32)
  (f2 : Bf (F := F) c M2) (f3 : Bf (F := F) c M3) (f4 : Bf (F := F) c M4) (f6 : Bf (F := F) c M6)

theorem stores_later : runLater.sl.H5_3 c M3 M4 M6 M7 M8 f3 f4 f6
    = stores (fun g => View.readAt (Elt F) M6.view (rectL g).toLoadRect f6)
        (fun g => View.readAt (Elt F) M3.view (rectT g).toLoadRect f3)
        (fun g => View.readAt (Elt F) M4.view (rectS g).toLoadRect f4) := by
  simp (disch := decide) only [runLater.sl.H5_3, runLater.sl.v198, runLater.sl.v200, runLater.sl.v202, runLater.sl.v166, runLater.sl.v168, runLater.sl.v175,
    runLater.sl.v178, runLater.sl.v180, runLater.sl.v141, runLater.sl.v143, runLater.sl.v144, runLater.sl.v145, runLater.sl.v146, runLater.sl.v148, runLater.sl.v112,
    runLater.sl.v107, runLater.sl.v94, runLater.sl.v92, runLater.sl.v90, runLater.sl.v70, runLater.sl.v67, runLater.sl.v60, runLater.sl.v58,
    runLater.sl.v35, runLater.sl.v33, runLater.sl.v32, runLater.sl.v28, runLater.sl.v10, runLater.sl.H7_1, runLater.sl.H7_2, runLater.sl.H7_3, runLater.sl.H7_4,
    runLater.sl.H8_3, runLater.sl.H8_6, runLater.sl.H8_9,
    ↓View.readCov_skip, ↓View.readCov_cons_toLoadRect, ↓View.readCov_full]
  rfl

theorem stores_first : runFirst.sl.H5_3 c M2 M3 M4 M6 M7 M8 f2 f3 f4
    = stores (fun g => View.readAt (Elt F) M6.view (rectL g).toLoadRect
            (M6.view.writes (Elt F) M6.view.junk (Tiles.pieces (Tiles.words (View.readAt (Elt F) M2.view (Rect.unit (s := S1728x256) ![0, 0] S1728x256.size inb_S1728x256_S1728x256_0_0).toLoadRect f2)) 64 (le_refl _))))
        (fun g => View.readAt (Elt F) M3.view (rectT g).toLoadRect f3)
        (fun g => View.readAt (Elt F) M4.view (rectS g).toLoadRect f4) := by
  rw [← Tiles.writes_eq]
  simp (disch := decide) only [runFirst.sl.H5_3, runFirst.sl.v165, runFirst.sl.v111, runFirst.sl.v57, runFirst.sl.v9, runFirst.sl.v198, runFirst.sl.v200, runFirst.sl.v202, runFirst.sl.v166, runFirst.sl.v168, runFirst.sl.v175,
    runFirst.sl.v178, runFirst.sl.v180, runFirst.sl.v141, runFirst.sl.v143, runFirst.sl.v144, runFirst.sl.v145, runFirst.sl.v146, runFirst.sl.v148, runFirst.sl.v112,
    runFirst.sl.v107, runFirst.sl.v94, runFirst.sl.v92, runFirst.sl.v90, runFirst.sl.v70, runFirst.sl.v67, runFirst.sl.v60, runFirst.sl.v58,
    runFirst.sl.v35, runFirst.sl.v33, runFirst.sl.v32, runFirst.sl.v28, runFirst.sl.v10, runFirst.sl.H7_1, runFirst.sl.H7_2, runFirst.sl.H7_3, runFirst.sl.H7_4,
    runFirst.sl.H8_3, runFirst.sl.H8_6, runFirst.sl.H8_9,
    ↓View.readCov_skip, ↓View.readCov_cons_toLoadRect, ↓View.readCov_full]
  rfl
end

end Cert.KernelIdeal.Groups

end
-- ==== Proof.KernelIdeal.Blocks.lean ====
/-
  What the body leaves, free of the memory it leaves it in: the operand scratch as a function of the block of codes
  (`lhsOf`), the result block as a function of the operand, the tables' block and the scales' block (`outOf`), and the
  body's two paths read as the two facts that they leave exactly these.
-/
module

public import proofs.«01_k».proof.Proof.KernelIdeal.Groups

@[expose] public section

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The packed one-hot operand of a block of codes. -/
def lhsOf (X : Vec F S1728x256 .i8) : Vec F S1152x8192 .bf16 := View.canon (Tiles.pieces (Tiles.words X) 64 (le_refl _))

/-- The result block of an operand, a block of tables and a block of scales. -/
def outOf (L : Vec F S1152x8192 .bf16) (T : Vec F S512x16x512 .i8) (S : Vec F S4x512 .f32) : Vec F S1728x512 .bf16 :=
  View.canon (Groups.stores (fun g => View.ld L (Groups.rectL g)) (fun g => View.ld T (Groups.rectT g)) (fun g => View.ld S (Groups.rectS g)))

theorem readAt_whole {M : Memref sig .tc .vmem S1728x256 .i8} (f : M.view.ty.Contents (Elt F)) :
    View.readAt (Elt F) M.view (Rect.unit (s := S1728x256) ![0, 0] S1728x256.size inb_S1728x256_S1728x256_0_0).toLoadRect f
      = M.view.read (Elt F) f := by
  funext j
  rw [View.readAt_apply]
  congr 1
  funext a
  apply Fin.ext
  match a with
  | ⟨0, _⟩ => exact (Nat.zero_add _).trans (Nat.one_mul _)
  | ⟨1, _⟩ => exact (Nat.zero_add _).trans (Nat.one_mul _)

section
variable (c : Dev nD) (i : grid0.Coords)
  (M2 : Memref sig .tc .vmem S1728x256 .i8) (h2 : M2.IsWhole)
  (M3 : Memref sig .tc .vmem S512x16x512 .i8) (h3 : M3.IsWhole)
  (M4 : Memref sig .tc .vmem S4x512 .f32) (h4 : M4.IsWhole)
  (M5 : Memref sig .tc .vmem S1728x512 .bf16) (h5 : M5.IsWhole)
  (M6 : Memref sig .tc .vmem S1152x8192 .bf16) (h6 : M6.IsWhole)
  (M7 : Memref sig .tc .vmem S2048x512 .bf16) (h7 : M7.IsWhole)
  (M8 : Memref sig .tc .vmem S1728x512 .f32) (h8 : M8.IsWhole)
  (f2 : Bf (F := F) c M2) (f3 : Bf (F := F) c M3) (f4 : Bf (F := F) c M4) (f6 : Bf (F := F) c M6)

/-- The operand scratch after the body at a first column block. -/
theorem first_lhs (hc) : M6.view.read (Elt F) (runFirst c i hc M2 h2 M3 h3 M4 h4 M5 h5 M6 h6 M7 h7 M8 h8 f2 f3 f4).1.2
    = lhsOf (M2.view.read (Elt F) f2) := by
  show M6.view.read (Elt F) (M6.view.writes (Elt F) M6.view.junk (runFirst.sl.H6_128 c M2 f2)) = _
  rw [Tiles.writes_eq, View.read_writes_junk_eq_canon, readAt_whole]
  rfl

/-- The result block after the body at a first column block. -/
theorem first_out (hc) : M5.view.read (Elt F) (runFirst c i hc M2 h2 M3 h3 M4 h4 M5 h5 M6 h6 M7 h7 M8 h8 f2 f3 f4).1.1
    = outOf (lhsOf (M2.view.read (Elt F) f2)) (M3.view.read (Elt F) f3) (M4.view.read (Elt F) f4) := by
  unfold runFirst
  dsimp only
  rw [Groups.stores_first, View.read_writes_junk_eq_canon, readAt_whole]
  simp only [View.readAt_writes_junk_eq_canon]
  rfl

/-- The result block after the body at a later column block. -/
theorem later_out (hc) : M5.view.read (Elt F) (runLater c i hc M2 h2 M3 h3 M4 h4 M5 h5 M6 h6 M7 h7 M8 h8 f3 f4 f6).1
    = outOf (M6.view.read (Elt F) f6) (M3.view.read (Elt F) f3) (M4.view.read (Elt F) f4) := by
  unfold runLater
  dsimp only
  rw [Groups.stores_later, View.read_writes_junk_eq_canon]
  rfl
end

end Cert.KernelIdeal.Blocks

end
-- ==== Proof.Math.Words.lean ====
/-
  Three bytes packed in one word, and their nibbles. The nibble of the word's byte 0, 1 or 2 at the lane's shift is that
  byte's own nibble: the other bytes do not reach it.
-/
module

public import Idealize.ShloMosaic.Lib.ValueIdxCore

@[expose] public section

set_option maxRecDepth 16384

namespace Cert.Math

open Idealize.ShloMosaic

/-- A byte's upper nibble (`h`) or its lower one. -/
def nib (x : BitVec 8) (h : Prop) [Decidable h] : Fin 16 := if h then ⟨x.toNat / 16, by have := x.isLt; omega⟩ else ⟨x.toNat % 16, by omega⟩

/-- Three bytes in one word. -/
def pack (a b c : BitVec 8) : BitVec 32 :=
  IntOp.ori (IntOp.ori (a.setWidth 32) (IntOp.shli .vector (b.setWidth 32) 8#32)) (IntOp.shli .vector (c.setWidth 32) 16#32)

theorem pack_eq (a b c : BitVec 8) : pack a b c = (a.setWidth 32 ||| (b.setWidth 32 <<< 8)) ||| (c.setWidth 32 <<< 16) := rfl

theorem low_nibble (a : BitVec 8) : a.setWidth 32 &&& 15#32 = BitVec.ofNat 32 (a.toNat % 16) := by
  revert a; decide +kernel
theorem high_nibble (a : BitVec 8) : (a.setWidth 32 >>> 4) &&& 15#32 = BitVec.ofNat 32 (a.toNat / 16) := by
  revert a; decide +kernel

/-- The word shifted by the lane's amount. -/
def shifted (a b c : BitVec 8) (h : Prop) [Decidable h] : BitVec 32 := IntOp.shrui .vector (pack a b c) (if h then 4#32 else 0#32)

section
variable (a b c : BitVec 8) (h : Prop) [Decidable h]

theorem field0 : IntOp.andi (shifted a b c h) 15#32 = BitVec.ofNat 32 (nib a h).val := by
  unfold shifted nib
  by_cases hh : h
  · rw [if_pos hh, if_pos hh]
    show (pack a b c >>> 4) &&& 15#32 = BitVec.ofNat 32 (a.toNat / 16)
    rw [← high_nibble, pack_eq]
    apply BitVec.eq_of_getLsbD_eq
    intro i hi
    interval_cases i <;> simp
  · rw [if_neg hh, if_neg hh]
    show (pack a b c >>> 0) &&& 15#32 = BitVec.ofNat 32 (a.toNat % 16)
    rw [← low_nibble, pack_eq]
    apply BitVec.eq_of_getLsbD_eq
    intro i hi
    interval_cases i <;> simp

theorem field1 : IntOp.andi (IntOp.shrsi .vector (shifted a b c h) 8#32) 15#32 = BitVec.ofNat 32 (nib b h).val := by
  unfold shifted nib
  by_cases hh : h
  · rw [if_pos hh, if_pos hh]
    show ((pack a b c >>> 4).sshiftRight 8) &&& 15#32 = BitVec.ofNat 32 (b.toNat / 16)
    rw [← high_nibble, pack_eq]
    apply BitVec.eq_of_getLsbD_eq
    intro i hi
    interval_cases i <;> simp [BitVec.getLsbD_sshiftRight, BitVec.getElem_sshiftRight]
  · rw [if_neg hh, if_neg hh]
    show ((pack a b c >>> 0).sshiftRight 8) &&& 15#32 = BitVec.ofNat 32 (b.toNat % 16)
    rw [← low_nibble, pack_eq]
    apply BitVec.eq_of_getLsbD_eq
    intro i hi
    interval_cases i <;> simp [BitVec.getLsbD_sshiftRight, BitVec.getElem_sshiftRight]

theorem field2 : IntOp.andi (IntOp.shrsi .vector (shifted a b c h) 16#32) 15#32 = BitVec.ofNat 32 (nib c h).val := by
  unfold shifted nib
  by_cases hh : h
  · rw [if_pos hh, if_pos hh]
    show ((pack a b c >>> 4).sshiftRight 16) &&& 15#32 = BitVec.ofNat 32 (c.toNat / 16)
    rw [← high_nibble, pack_eq]
    apply BitVec.eq_of_getLsbD_eq
    intro i hi
    interval_cases i <;> simp [BitVec.getLsbD_sshiftRight, BitVec.getElem_sshiftRight]
  · rw [if_neg hh, if_neg hh]
    show ((pack a b c >>> 0).sshiftRight 16) &&& 15#32 = BitVec.ofNat 32 (c.toNat % 16)
    rw [← low_nibble, pack_eq]
    apply BitVec.eq_of_getLsbD_eq
    intro i hi
    interval_cases i <;> simp [BitVec.getLsbD_sshiftRight, BitVec.getElem_sshiftRight]
end

/-- Comparing a nibble's word with a centroid's word. -/
theorem cmp_nib (n : Fin 16) (k : ℕ) (hk : k < 16) :
    IntOp.cmpi .eq (BitVec.ofNat 32 n.val) (BitVec.ofNat 32 k) = if n.val = k then 1#1 else 0#1 := by
  revert n k; decide +kernel

/-- One where `p` is the centroid, less 256 where `q` is. -/
def coef (p q k : ℕ) : ℤ := (if p = k then 1 else 0) + (if q = k then -256 else 0)

end Cert.Math
-- ==== Proof.Math.Unpack.lean ====
/-
  The kernel's unpacking over the extended reals. One matrix product gives `A - 256 B` and `C - 256 A` for three integers
  `A`, `B`, `C` of magnitude at most 16384. Whatever integer the first rounding picks, the second one undoes it: the
  values recovered are exactly `A`, `256 B` and `C`.
-/
module

public import Idealize.ShloMosaic.PureOps.Ideal
public import Idealize.ShloMosaic.PureOps.Ideal.Laws

@[expose] public section

noncomputable section

namespace Cert.Math

open Idealize.ShloMosaic

/-- An integer as an extended real. -/
abbrev ez (z : ℤ) : EReal := ((z : ℝ) : EReal)

theorem ez_add (a b : ℤ) : ez a + ez b = ez (a + b) := by unfold ez; push_cast; rfl
theorem ez_sub (a b : ℤ) : ez a - ez b = ez (a - b) := by unfold ez; push_cast; rfl
theorem ez_mul (a b : ℤ) : ez a * ez b = ez (a * b) := by unfold ez; push_cast; rfl
theorem ez_sum {ι : Type} (s : Finset ι) (f : ι → ℤ) : ∑ i ∈ s, ez (f i) = ez (∑ i ∈ s, f i) := by
  classical
  induction s using Finset.induction_on with
  | empty => simp [ez]
  | insert a s ha ih => rw [Finset.sum_insert ha, Finset.sum_insert ha, ih, ez_add]

/-! The constants. -/
theorem ofBits_one : Ideal.ofBits .f32 0x3F800000#32 = ez 1 := by
  simp [Ideal.ofBits, Ideal.ieee, ez, -EReal.coe_mul, -EReal.coe_neg]; norm_num
theorem ofBits_zero : Ideal.ofBits .f32 0x00000000#32 = ez 0 := by
  simp [Ideal.ofBits, Ideal.ieee, ez, -EReal.coe_mul, -EReal.coe_neg]
theorem ofBits_neg256 : Ideal.ofBits .f32 0xC3800000#32 = ez (-256) := by
  simp [Ideal.ofBits, Ideal.ieee, ez, -EReal.coe_mul, -EReal.coe_neg]; norm_num
theorem ofBits_256 : Ideal.ofBits .f32 0x43800000#32 = ez 256 := by
  simp [Ideal.ofBits, Ideal.ieee, ez, -EReal.coe_mul, -EReal.coe_neg]; norm_num
theorem ofBits_65536 : Ideal.ofBits .f32 0x47800000#32 = ez 65536 := by
  simp [Ideal.ofBits, Ideal.ieee, ez, -EReal.coe_mul, -EReal.coe_neg]; norm_num
theorem ofBits_inv256 : Ideal.ofBits .f32 0x3B800000#32 = ((1 / 256 : ℝ) : EReal) := by
  simp [Ideal.ofBits, Ideal.ieee, -EReal.coe_mul]; norm_num
theorem ofBits_inv65536 : Ideal.ofBits .f32 0x37800000#32 = ((1 / 65536 : ℝ) : EReal) := by
  simp [Ideal.ofBits, Ideal.ieee, -EReal.coe_mul]; norm_num

/-- Rounding to an integer. -/
theorem round_real (x : ℝ) : Ideal.liftRound Ideal.roundHalfEven ((x : ℝ) : EReal) = ez (Ideal.roundHalfEven x) := rfl

/-- An integer plus less than a half rounds to the integer. -/
theorem round_near (k : ℤ) (d : ℝ) (h : |d| < 1 / 2) : Ideal.roundHalfEven ((k : ℝ) + d) = k := by
  obtain ⟨h1, h2⟩ := abs_lt.mp h
  unfold Ideal.roundHalfEven
  rcases le_or_gt 0 d with h0 | h0
  · have hf : ⌊(k : ℝ) + d⌋ = k := by rw [Int.floor_eq_iff]; constructor <;> linarith
    simp only [hf]
    rw [if_pos (by linarith)]
  · have hf : ⌊(k : ℝ) + d⌋ = k - 1 := by rw [Int.floor_eq_iff]; push_cast; constructor <;> linarith
    simp only [hf]
    push_cast
    rw [if_neg (by linarith), if_pos (by linarith)]
    ring

/-! The kernel's three values, from the two packed ones. -/

/-- What the first rounding leaves of `R1`. -/
def low (x : EReal) : EReal := x - Ideal.ofBits .f32 0x43800000#32 * Ideal.liftRound Ideal.roundHalfEven (x * Ideal.ofBits .f32 0x3B800000#32)
/-- The second packed value with that remainder put back in. -/
def mixed (x y : EReal) : EReal := y + Ideal.ofBits .f32 0x43800000#32 * low x
/-- The integer the second rounding picks. -/
def pick (x y : EReal) : EReal := Ideal.liftRound Ideal.roundHalfEven (mixed x y * Ideal.ofBits .f32 0x37800000#32)

variable (A B C : ℤ)

theorem low_eq : ∃ k : ℤ, low (ez (A - 256 * B)) = ez (A - 256 * k) := by
  unfold low
  rw [ofBits_256, ofBits_inv256]
  rw [show ez (A - 256 * B) * ((1 / 256 : ℝ) : EReal) = ((((A - 256 * B : ℤ) : ℝ) * (1 / 256) : ℝ) : EReal) from (EReal.coe_mul _ _).symm, round_real, ez_mul, ez_sub]
  exact ⟨B + Ideal.roundHalfEven (((A - 256 * B : ℤ) : ℝ) * (1 / 256)), by congr 1; push_cast; ring⟩

theorem unpack (hC : |C| ≤ 16384) :
    ∃ k : ℤ, low (ez (A - 256 * B)) = ez (A - 256 * k) ∧ mixed (ez (A - 256 * B)) (ez (C - 256 * A)) = ez (C - 65536 * k)
      ∧ pick (ez (A - 256 * B)) (ez (C - 256 * A)) = ez (-k) := by
  obtain ⟨k, hk⟩ := low_eq A B
  have hm : mixed (ez (A - 256 * B)) (ez (C - 256 * A)) = ez (C - 65536 * k) := by
    unfold mixed
    rw [hk, ofBits_256, ez_mul, ez_add]
    congr 1; push_cast; ring
  refine ⟨k, hk, hm, ?_⟩
  unfold pick
  rw [hm, ofBits_inv65536]
  rw [show ez (C - 65536 * k) * ((1 / 65536 : ℝ) : EReal) = ((((C - 65536 * k : ℤ) : ℝ) * (1 / 65536) : ℝ) : EReal) from (EReal.coe_mul _ _).symm, round_real]
  congr 1
  rw [show ((C - 65536 * k : ℤ) : ℝ) * (1 / 65536) = ((-k : ℤ) : ℝ) + (C : ℝ) / 65536 by push_cast; ring]
  apply round_near
  have : |(C : ℝ)| ≤ 16384 := by exact_mod_cast hC
  rw [abs_div, abs_of_pos (by norm_num : (0 : ℝ) < 65536)]
  linarith

/-- The first, the third and, against the scale over 256, the second integer. -/
theorem first_eq (hC : |C| ≤ 16384) :
    low (ez (A - 256 * B)) - pick (ez (A - 256 * B)) (ez (C - 256 * A)) * Ideal.ofBits .f32 0x43800000#32 = ez A := by
  obtain ⟨k, h1, -, h3⟩ := unpack A B C hC
  rw [h1, h3, ofBits_256, ez_mul, ez_sub]
  congr 1; push_cast; ring
theorem third_eq (hC : |C| ≤ 16384) :
    mixed (ez (A - 256 * B)) (ez (C - 256 * A)) - pick (ez (A - 256 * B)) (ez (C - 256 * A)) * Ideal.ofBits .f32 0x47800000#32 = ez C := by
  obtain ⟨k, -, h2, h3⟩ := unpack A B C hC
  rw [h2, h3, ofBits_65536, ez_mul, ez_sub]
  congr 1; push_cast; ring
theorem second_eq (s : EReal) : (ez A - ez (A - 256 * B)) * (s * Ideal.ofBits .f32 0x3B800000#32) = ez B * s := by
  have e : ez (256 * B) * ((1 / 256 : ℝ) : EReal) = ez B :=
    (EReal.coe_mul _ _).symm.trans (by congr 1; push_cast; ring)
  rw [ofBits_inv256, ez_sub, show A - (A - 256 * B) = 256 * B by ring, mul_comm s, ← mul_assoc, e]

end Cert.Math

end
-- ==== Proof.KernelIdeal.Operand.lean ====
/-
  The packed one-hot operand at an index, over the extended reals. Column `q` belongs to byte `q / 32`, to that byte's
  upper nibble when `q / 16` is odd, and to the centroid `q % 16`. An upper row holds 1 where the first token's nibble is
  the centroid, less 256 where the second's is; a lower row holds the same of the third token and of the first.
-/
module

public import proofs.«01_k».proof.Proof.KernelIdeal.Lanes
public import proofs.«01_k».proof.Proof.KernelIdeal.Blocks
public import proofs.«01_k».proof.Proof.Math.Words
public import proofs.«01_k».proof.Proof.Math.Unpack

@[expose] public section

set_option maxRecDepth 16384

noncomputable section

namespace Cert.KernelIdeal.Tiles

open Cert.KernelIdeal Cert.KernelIdeal.Gen Cert.Math
open Idealize.ShloMosaic Idealize.ShloMosaic.ValueIdx

section
variable (w : IVec S576x256 32) (t : ℕ) (ht : t < 64) (r : Fin 576) (l : Fin 128) (a b c : BitVec 8)
  (hw : w (ix2 r ⟨4 * t + l.val / 32, by omega⟩) = pack a b c)
include ht hw

theorem word_eq : word w t (ix2 r l) = shifted a b c (l.val / 16 % 2 = 1) := by
  rw [word_apply w t ht r l, hw]; rfl

theorem hit0_apply : hit0 w t (ix2 r l) = if (nib a (l.val / 16 % 2 = 1)).val = l.val % 16 then 1#1 else 0#1 := by
  show IntOp.cmpi .eq (IntOp.andi (word w t (ix2 r l)) 15#32) (k0_pay7 (ix2 r l)) = _
  rw [word_eq w t ht r l a b c hw, field0, cent_apply, cmp_nib _ _ (by omega)]
theorem hit1_apply : hit w t 8#32 (ix2 r l) = if (nib b (l.val / 16 % 2 = 1)).val = l.val % 16 then 1#1 else 0#1 := by
  show IntOp.cmpi .eq (IntOp.andi (IntOp.shrsi .vector (word w t (ix2 r l)) 8#32) 15#32) (k0_pay7 (ix2 r l)) = _
  rw [word_eq w t ht r l a b c hw, field1, cent_apply, cmp_nib _ _ (by omega)]
theorem hit2_apply : hit w t 16#32 (ix2 r l) = if (nib c (l.val / 16 % 2 = 1)).val = l.val % 16 then 1#1 else 0#1 := by
  show IntOp.cmpi .eq (IntOp.andi (IntOp.shrsi .vector (word w t (ix2 r l)) 16#32) 15#32) (k0_pay7 (ix2 r l)) = _
  rw [word_eq w t ht r l a b c hw, field2, cent_apply, cmp_nib _ _ (by omega)]
end

theorem one_apply (m : IVec S576x128 1) (i : S576x128.Idx) (p : Prop) [Decidable p] (h : m i = if p then 1#1 else 0#1) :
    (one m : FVec Ideal S576x128 .f32) i = ez (if p then 1 else 0) := by
  show Scalar.select (m i) (Ideal.ofBits .f32 0x3F800000#32) (Ideal.ofBits .f32 0x00000000#32) = _
  rw [h, ofBits_one, ofBits_zero]
  by_cases hp : p
  · rw [if_pos hp, if_pos hp]; rfl
  · rw [if_neg hp, if_neg hp]; rfl
theorem neg_apply (m : IVec S576x128 1) (i : S576x128.Idx) (p : Prop) [Decidable p] (h : m i = if p then 1#1 else 0#1) :
    (neg m : FVec Ideal S576x128 .f32) i = ez (if p then -256 else 0) := by
  show Scalar.select (m i) (Ideal.ofBits .f32 0xC3800000#32) (Ideal.ofBits .f32 0x00000000#32) = _
  rw [h, ofBits_neg256, ofBits_zero]
  by_cases hp : p
  · rw [if_pos hp, if_pos hp]; rfl
  · rw [if_neg hp, if_neg hp]; rfl

section
variable (w : IVec S576x256 32) (t : ℕ) (ht : t < 64) (r : Fin 576) (l : Fin 128) (a b c : BitVec 8)
  (hw : w (ix2 r ⟨4 * t + l.val / 32, by omega⟩) = pack a b c)
include ht hw

theorem upper_apply : (upper w t : FVec Ideal S576x128 .bf16) (ix2 r l)
    = ez (coef (nib a (l.val / 16 % 2 = 1)).val (nib b (l.val / 16 % 2 = 1)).val (l.val % 16)) := by
  unfold upper
  rw [shapeCast_self]
  show (one (hit0 w t) : FVec Ideal S576x128 .f32) (ix2 r l) + (neg (hit w t 8#32) : FVec Ideal S576x128 .f32) (ix2 r l) = _
  rw [one_apply _ _ _ (hit0_apply w t ht r l a b c hw), neg_apply _ _ _ (hit1_apply w t ht r l a b c hw), ez_add]
  rfl
theorem lower_apply : (lower w t : FVec Ideal S576x128 .bf16) (ix2 r l)
    = ez (coef (nib c (l.val / 16 % 2 = 1)).val (nib a (l.val / 16 % 2 = 1)).val (l.val % 16)) := by
  unfold lower
  rw [shapeCast_self]
  show (one (hit w t 16#32) : FVec Ideal S576x128 .f32) (ix2 r l) + (neg (hit0 w t) : FVec Ideal S576x128 .f32) (ix2 r l) = _
  rw [one_apply _ _ _ (hit2_apply w t ht r l a b c hw), neg_apply _ _ _ (hit0_apply w t ht r l a b c hw), ez_add]
  rfl
end

/-- The three tokens a row of the packed words holds. -/
def tok (s : ℕ) (hs : s < 3) (r : Fin 576) : Fin 1728 := ⟨r.val + 576 * s, by omega⟩

theorem words_apply (X : Vec Ideal S1728x256 .i8) (r : Fin 576) (k : Fin 256) :
    words X (ix2 r k) = pack (X (ix2 (tok 0 (by omega) r) k)) (X (ix2 (tok 1 (by omega) r) k)) (X (ix2 (tok 2 (by omega) r) k)) := by
  have e : ∀ (s : ℕ) (hs : s < 3) (h : S1728x256.Slices ![576 * s, 0] S576x256), extractStridedSlice S576x256 ![576 * s, 0] (extui 32 X natLt_8_32 : IVec S1728x256 32) h (ix2 r k)
      = (X (ix2 (tok s hs r) k)).setWidth 32 := by
    intro s hs h
    refine extractStridedSlice_apply _ _ h _ (ix2 (tok s hs r) k) fun a => ?_
    fin_cases a
    · exact Nat.add_comm _ _
    · exact (Nat.zero_add _).symm
  unfold words k0_pay6
  rw [shapeCast_self]
  exact congr (congrArg _ (congr (congrArg _ (e 0 (by omega) _)) (congrArg (fun x => IntOp.shli .vector x 8#32) (e 1 (by omega) _))))
    (congrArg (fun x => IntOp.shli .vector x 16#32) (e 2 (by omega) _))

/-- The operand, row by row and column by column. -/
def entry (X : Vec Ideal S1728x256 .i8) (y : S1152x8192.Idx) : EReal :=
  if h : (y 0).val < 576 then upper (F := Ideal) (words X) ((y 1).val / 128) (ix2 ⟨(y 0).val, h⟩ ⟨(y 1).val % 128, Nat.mod_lt _ (by omega)⟩)
  else lower (F := Ideal) (words X) ((y 1).val / 128) (ix2 ⟨(y 0).val - 576, by have : (y 0).val < 1152 := (y 0).isLt; omega⟩ ⟨(y 1).val % 128, Nat.mod_lt _ (by omega)⟩)

theorem entry_upper (X : Vec Ideal S1728x256 .i8) (y : S1152x8192.Idx) (n : ℕ) (i : Fin 576) (l : Fin 128)
    (h0 : (y 0).val = i.val) (h1 : (y 1).val = 128 * n + l.val) : entry X y = upper (F := Ideal) (words X) n (ix2 i l) := by
  have hi := i.isLt
  have e : (y 1).val / 128 = n := by omega
  have e2 : (⟨(y 1).val % 128, Nat.mod_lt _ (by omega)⟩ : Fin 128) = l := Fin.ext (by show (y 1).val % 128 = l.val; omega)
  unfold entry
  rw [dif_pos (by omega), e, e2]
  congr 2
  exact Fin.ext h0

theorem entry_lower (X : Vec Ideal S1728x256 .i8) (y : S1152x8192.Idx) (n : ℕ) (i : Fin 576) (l : Fin 128)
    (h0 : (y 0).val = 576 + i.val) (h1 : (y 1).val = 128 * n + l.val) : entry X y = lower (F := Ideal) (words X) n (ix2 i l) := by
  have e : (y 1).val / 128 = n := by omega
  have e2 : (⟨(y 1).val % 128, Nat.mod_lt _ (by omega)⟩ : Fin 128) = l := Fin.ext (by show (y 1).val % 128 = l.val; omega)
  unfold entry
  rw [dif_neg (by omega), e, e2]
  congr 2
  exact Fin.ext (by show (y 0).val - 576 = i.val; omega)

theorem pieces_entry (X : Vec Ideal S1728x256 .i8) : ∀ (n : ℕ) (hn : n ≤ 64), ∀ p ∈ pieces (F := Ideal) (words X) n hn,
    ∀ x : p.1.shape.Idx, p.2 x = entry X (p.1.emb x)
  | 0, _, p, hp, _ => nomatch hp
  | n + 1, hn, p, hp, x => by
    rcases List.mem_cons.mp hp with rfl | hp
    · have ex : x = ix2 (x 0) (x 1) := eq_ix2 x
      refine Eq.trans (congrArg _ ex) (entry_lower X _ n (x 0) (x 1) ?_ ?_).symm
      · show 576 + 1 * (x 0).val = 576 + (x 0).val; omega
      · show 128 * n + 1 * (x 1).val = 128 * n + (x 1).val; omega
    rcases List.mem_cons.mp hp with rfl | hp
    · have ex : x = ix2 (x 0) (x 1) := eq_ix2 x
      refine Eq.trans (congrArg _ ex) (entry_upper X _ n (x 0) (x 1) ?_ ?_).symm
      · show 0 + 1 * (x 0).val = (x 0).val; omega
      · show 128 * n + 1 * (x 1).val = 128 * n + (x 1).val; omega
    exact pieces_entry X n _ p hp x

theorem pieces_mem (X : Vec Ideal S1728x256 .i8) (y : S1152x8192.Idx) : ∀ (n : ℕ) (hn : n ≤ 64), (y 1).val < 128 * n →
    ∃ p ∈ pieces (F := Ideal) (words X) n hn, y ∈ p.1.set
  | 0, _, h => absurd h (by omega)
  | n + 1, hn, h => by
    have h0 : (y 0).val < 1152 := (y 0).isLt
    by_cases hlt : (y 1).val < 128 * n
    · obtain ⟨p, hp, hy⟩ := pieces_mem X y n (by omega) hlt
      exact ⟨p, List.mem_cons_of_mem _ (List.mem_cons_of_mem _ hp), hy⟩
    by_cases hr : (y 0).val < 576
    · refine ⟨_, List.mem_cons_of_mem _ List.mem_cons_self, ?_⟩
      rw [Rect.mem_set_unit]
      intro a
      match a with
      | ⟨0, _⟩ => show 0 ≤ (y 0).val ∧ (y 0).val < 0 + 576; omega
      | ⟨1, _⟩ => show 128 * n ≤ (y 1).val ∧ (y 1).val < 128 * n + 128; omega
    · refine ⟨_, List.mem_cons_self, ?_⟩
      rw [Rect.mem_set_unit]
      intro a
      match a with
      | ⟨0, _⟩ => show 576 ≤ (y 0).val ∧ (y 0).val < 576 + 576; omega
      | ⟨1, _⟩ => show 128 * n ≤ (y 1).val ∧ (y 1).val < 128 * n + 128; omega

theorem lhsOf_apply (X : Vec Ideal S1728x256 .i8) (y : S1152x8192.Idx) : Blocks.lhsOf X y = entry X y :=
  View.canon_apply_of_pieces (Val := Elt Ideal) (S := S1152x8192) (e := .bf16) (entry X) _ (pieces_entry X 64 (le_refl _)) y
    (pieces_mem X y 64 (le_refl _) (y 1).isLt)

/-- Column `q`'s byte. -/
def byteOf (q : Fin 8192) : Fin 256 := ⟨q.val / 32, by omega⟩

theorem lhs_upper (X : Vec Ideal S1728x256 .i8) (r : Fin 576) (q : Fin 8192) :
    Blocks.lhsOf X (ix2 ⟨r.val, by omega⟩ q)
      = ez (coef (nib (X (ix2 (tok 0 (by omega) r) (byteOf q))) (q.val / 16 % 2 = 1)).val (nib (X (ix2 (tok 1 (by omega) r) (byteOf q))) (q.val / 16 % 2 = 1)).val (q.val % 16)) := by
  have hl : q.val = 128 * (q.val / 128) + q.val % 128 := by omega
  have hb : (⟨4 * (q.val / 128) + q.val % 128 / 32, by omega⟩ : Fin 256) = byteOf q := Fin.ext (by show 4 * (q.val / 128) + q.val % 128 / 32 = q.val / 32; omega)
  rw [lhsOf_apply, entry_upper X _ (q.val / 128) r ⟨q.val % 128, Nat.mod_lt _ (by omega)⟩ rfl hl,
    upper_apply (words X) (q.val / 128) (by omega) r ⟨q.val % 128, Nat.mod_lt _ (by omega)⟩ _ _ _ ((congrArg (fun b => words X (ix2 r b)) hb).trans (words_apply X r (byteOf q)))]
  have hh : (q.val % 128 / 16 % 2 = 1) = (q.val / 16 % 2 = 1) := propext (by omega)
  have hc : q.val % 128 % 16 = q.val % 16 := by omega
  simp only [hh, hc]

theorem lhs_lower (X : Vec Ideal S1728x256 .i8) (r : Fin 576) (q : Fin 8192) :
    Blocks.lhsOf X (ix2 ⟨576 + r.val, by omega⟩ q)
      = ez (coef (nib (X (ix2 (tok 2 (by omega) r) (byteOf q))) (q.val / 16 % 2 = 1)).val (nib (X (ix2 (tok 0 (by omega) r) (byteOf q))) (q.val / 16 % 2 = 1)).val (q.val % 16)) := by
  have hl : q.val = 128 * (q.val / 128) + q.val % 128 := by omega
  have hb : (⟨4 * (q.val / 128) + q.val % 128 / 32, by omega⟩ : Fin 256) = byteOf q := Fin.ext (by show 4 * (q.val / 128) + q.val % 128 / 32 = q.val / 32; omega)
  rw [lhsOf_apply, entry_lower X _ (q.val / 128) r ⟨q.val % 128, Nat.mod_lt _ (by omega)⟩ rfl hl,
    lower_apply (words X) (q.val / 128) (by omega) r ⟨q.val % 128, Nat.mod_lt _ (by omega)⟩ _ _ _ ((congrArg (fun b => words X (ix2 r b)) hb).trans (words_apply X r (byteOf q)))]
  have hh : (q.val % 128 / 16 % 2 = 1) = (q.val / 16 % 2 = 1) := propext (by omega)
  have hc : q.val % 128 % 16 = q.val % 16 := by omega
  simp only [hh, hc]

end Cert.KernelIdeal.Tiles

end
-- ==== Proof.KernelIdeal.Windows.lean ====
/-
  The four windows at a point of the grid, entry by entry: which rows of a block of codes, or of the result, lie inside
  the array (the last row block overhangs its end), and which entry of an array an entry of a block is.
-/
module

public import proofs.«01_k».proof.Proof.KernelIdeal.Blocks
public import Idealize.ShloMosaic.Lib.ValueIdxCore

@[expose] public section

set_option maxRecDepth 16384

noncomputable section

namespace Cert.KernelIdeal.Windows

open Cert.KernelIdeal Cert.KernelIdeal.Gen Cert.KernelIdeal.Body
open Idealize.ShloMosaic Idealize.ShloMosaic.TcCoe Idealize.ShloMosaic.ValueIdx
open Idealize.ShloMosaic.Rounds
open Idealize.ShloMosaic.Pipeline (Dat Cfg Window)

variable {F : FTy → Type} [FloatOps F]

variable (m : (ℓ : Loc nD τ sig) → Buf (Elt F) ℓ)

/-- A point's two coordinates. -/
theorem row_of (t : Fin cfg0.N) : (grid0.coords t 0).val = t.val / 16 := (by decide : ∀ t : Fin 48, (grid0.coords t 0).val = t.val / 16) t
theorem col_of (t : Fin cfg0.N) : (grid0.coords t 1).val = t.val % 16 := (by decide : ∀ t : Fin 48, (grid0.coords t 1).val = t.val % 16) t

/-- The block coordinates the index maps compute are the point's. -/
theorem word_row (t : Fin cfg0.N) : (BitVec.ofNat 32 (grid0.coords t 0).val).toNat = t.val / 16 :=
  (by decide : ∀ t : Fin 48, (BitVec.ofNat 32 (grid0.coords t 0).val).toNat = t.val / 16) t
theorem word_col (t : Fin cfg0.N) : (BitVec.ofNat 32 (grid0.coords t 1).val).toNat = t.val % 16 :=
  (by decide : ∀ t : Fin 48, (BitVec.ofNat 32 (grid0.coords t 1).val).toNat = t.val % 16) t

/-- The body's first path is taken exactly at the first column block. -/
theorem first_iff (t : Fin cfg0.N) :
    Scalar.cmpi .ne (Scalar.extui (Scalar.cmpi .eq (BitVec.ofNat 32 (grid0.coords t 1).val) 0#32)) 0#32 = 1#1 ↔ t.val % 16 = 0 :=
  (by decide : ∀ t : Fin 48, Scalar.cmpi .ne (Scalar.extui (Scalar.cmpi .eq (BitVec.ofNat 32 (grid0.coords t 1).val) 0#32)) 0#32 = 1#1 ↔ t.val % 16 = 0) t

/-- How many rows of block `i` of 1728 lie inside an array of 5120: row `r` does exactly when `1728 i + r < 5120`. -/
theorem lt_extent (i r : ℕ) (hr : r < 1728) (hi : i < 3) :
    r < (Pipeline.Clip.of i 1728 5120).extent 1728 ↔ 1728 * i + r < 5120 := by
  unfold Pipeline.Clip.of
  split
  · show r < 1728 ↔ _; omega
  · show r < 5120 - i * 1728 ↔ _; omega
theorem lt_extent_zero (k d r : ℕ) (hr : r < k) (h : k ≤ d) : r < (Pipeline.Clip.of 0 k d).extent k := by
  unfold Pipeline.Clip.of
  rw [if_pos (by omega)]; exact hr

/-- `X` holds the rows of row block `i` of the codes that lie inside the array. -/
def Good (c : Dev nD) (i : ℕ) (X : Vec F S1728x256 .i8) : Prop :=
  ∀ (r : Fin 1728) (k : Fin 256) (h : 1728 * i + r.val < 5120), X (ix2 r k) = V m c main_v0 (ix2 ⟨1728 * i + r.val, h⟩ k)

/-- What a fetch of the codes' block leaves is such an `X`, whatever the buffer held before. -/
theorem good_fetched {c : Dev nD} (dat : Dat τ (Elt F) Unit ℕ (UR sig nD τ) ℕ cfg0 c) (hA : dat.A 0 = V m c main_v0)
    (t : Fin cfg0.N) (d) : Good m c (t.val / 16) (dat.fetched 0 t d) := by
  intro r k h
  have ht : t.val < 48 := t.isLt
  unfold Dat.fetched Window.fill
  have hm : (cfg0.win 0).moved (cfg0.grid.coords t) (ix2 r k) = true := by
    rw [Window.moved_iff]
    intro a
    match a with
    | ⟨0, _⟩ =>
      show r.val < (Pipeline.Clip.of (BitVec.ofNat 32 (grid0.coords t 0).val).toNat 1728 5120).extent 1728
      rw [word_row]; exact (lt_extent _ _ r.isLt (by omega)).mpr h
    | ⟨1, _⟩ => exact lt_extent_zero 256 256 _ k.isLt (le_refl _)
  rw [dif_pos hm]
  unfold Dat.blockOf
  rw [hA]
  refine congrArg (V m c main_v0) ?_
  funext a
  apply Fin.ext
  match a with
  | ⟨0, _⟩ =>
    show (BitVec.ofNat 32 (grid0.coords t 0).val).toNat * 1728 + 1 * r.val = 1728 * (t.val / 16) + r.val
    rw [word_row]; omega
  | ⟨1, _⟩ => show 0 * 256 + 1 * k.val = k.val; omega

/-- An entry of the tables' block, and of the scales' block. -/
theorem iblk1_apply (c : Dev nD) (t : Fin cfg0.N) (a : Fin 512) (b : Fin 16) (n : Fin 512) (n' : Fin 8192)
    (hn : n'.val = 512 * (t.val % 16) + n.val) :
    (iblk m c 1 t : Vec F S512x16x512 .i8) (ix3 a b n) = V m c main_arg1 (ix3 a b n') := by
  refine congrArg (V m c main_arg1) ?_
  funext e
  apply Fin.ext
  match e with
  | ⟨0, _⟩ => show 0 * 512 + 1 * a.val = a.val; omega
  | ⟨1, _⟩ => show 0 * 16 + 1 * b.val = b.val; omega
  | ⟨2, _⟩ => show (BitVec.ofNat 32 (grid0.coords t 1).val).toNat * 512 + 1 * n.val = n'.val; rw [word_col]; omega
theorem iblk2_apply (c : Dev nD) (t : Fin cfg0.N) (g : Fin 4) (n : Fin 512) (n' : Fin 8192)
    (hn : n'.val = 512 * (t.val % 16) + n.val) :
    (iblk m c 2 t : Vec F S4x512 .f32) (ix2 g n) = V m c main_arg2 (ix2 g n') := by
  refine congrArg (V m c main_arg2) ?_
  funext e
  apply Fin.ext
  match e with
  | ⟨0, _⟩ => show 0 * 4 + 1 * g.val = g.val; omega
  | ⟨1, _⟩ => show (BitVec.ofNat 32 (grid0.coords t 1).val).toNat * 512 + 1 * n.val = n'.val; rw [word_col]; omega

/-- A block of the result, cut to its rows inside the array, is an array's block when they agree entry by entry. -/
theorem cut_eq_read (c : Dev nD) (t : Fin cfg0.N) (X : Vec F S1728x512 .bf16) (G : Buf (Elt F) ((c : Thread nD τ).loc main_v1))
    (h : ∀ (r : Fin 1728) (n : Fin 512) (hr : 1728 * (t.val / 16) + r.val < 5120) (n' : Fin 8192),
      n'.val = 512 * (t.val % 16) + n.val → X (ix2 r n) = G (ix2 ⟨1728 * (t.val / 16) + r.val, hr⟩ n')) :
    (cfg0.win 3).cut (cfg0.grid.coords t) X = ((cfg0.win 3).blk t).view.read (Elt F) G := by
  have ht : t.val < 48 := t.isLt
  funext j
  have hm := (Window.moved_iff (cfg0.win 3) (cfg0.grid.coords t) _).mp ((cfg0.win 3).moved_xinj (cfg0.grid.coords t) j)
  have h0 : ((cfg0.win 3).xinj (cfg0.grid.coords t) j 0).val < (Pipeline.Clip.of (BitVec.ofNat 32 (grid0.coords t 0).val).toNat 1728 5120).extent 1728 := hm 0
  have l0 : ((cfg0.win 3).xinj (cfg0.grid.coords t) j 0).val < 1728 := ((cfg0.win 3).xinj (cfg0.grid.coords t) j 0).isLt
  have l1 : ((cfg0.win 3).xinj (cfg0.grid.coords t) j 1).val < 512 := ((cfg0.win 3).xinj (cfg0.grid.coords t) j 1).isLt
  rw [word_row] at h0
  have hr := (lt_extent _ _ l0 (by omega)).mp h0
  show X ((cfg0.win 3).xinj (cfg0.grid.coords t) j) = _
  rw [eq_ix2 (n0 := 1728) (n1 := 512) ((cfg0.win 3).xinj (cfg0.grid.coords t) j)]
  refine (h _ _ hr ⟨512 * (t.val % 16) + ((cfg0.win 3).xinj (cfg0.grid.coords t) j 1).val, by omega⟩ rfl).trans ?_
  refine congrArg G ?_
  funext a
  apply Fin.ext
  match a with
  | ⟨0, _⟩ =>
    show 1728 * (t.val / 16) + (j 0).val = (BitVec.ofNat 32 (grid0.coords t 0).val).toNat * 1728 + 1 * (j 0).val
    rw [word_row]; omega
  | ⟨1, _⟩ =>
    show 512 * (t.val % 16) + (j 1).val = (BitVec.ofNat 32 (grid0.coords t 1).val).toNat * 512 + 1 * (j 1).val
    rw [word_col]; omega

/-- Every entry of the result array lies in the block of some point. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 5120 := (i 0).isLt
  have h1 : (i 1 : Nat) < 8192 := (i 1).isLt
  let t : Fin cfg0.N := ⟨16 * ((i 0 : Nat) / 1728) + (i 1 : Nat) / 512, by show _ < 48; omega⟩
  have tv : t.val = 16 * ((i 0 : Nat) / 1728) + (i 1 : Nat) / 512 := rfl
  refine ⟨t, flush0_3 t, ?_⟩
  show i ∈ ((View.whole main_v1).slice (win0_3.rect t)).set
  rw [View.set_slice_whole, Rect.mem_set_unit]
  intro a
  match a with
  | ⟨0, _⟩ =>
    show (BitVec.ofNat 32 (grid0.coords t 0).val).toNat * 1728 ≤ (i 0 : Nat) ∧ (i 0 : Nat) < (BitVec.ofNat 32 (grid0.coords t 0).val).toNat * 1728
      + (Pipeline.Clip.of (BitVec.ofNat 32 (grid0.coords t 0).val).toNat 1728 5120).extent 1728
    rw [word_row]
    have := (lt_extent (t.val / 16) ((i 0 : Nat) - 1728 * (t.val / 16)) (by omega) (by omega)).mpr (by omega)
    omega
  | ⟨1, _⟩ =>
    show (BitVec.ofNat 32 (grid0.coords t 1).val).toNat * 512 ≤ (i 1 : Nat) ∧ (i 1 : Nat) < (BitVec.ofNat 32 (grid0.coords t 1).val).toNat * 512
      + (Pipeline.Clip.of (BitVec.ofNat 32 (grid0.coords t 1).val).toNat 512 8192).extent 512
    rw [word_col]
    unfold Pipeline.Clip.of
    rw [if_pos (by omega)]
    show _ ∧ _ < _ + 512
    omega

end Cert.KernelIdeal.Windows

end
-- ==== Proof.KernelIdeal.ValueRun.lean ====
/-
  The run of the whole kernel with the value of its result. The result block of a row block and a column block is, entry
  by entry, some function `val` of the token's bytes and of the tables' and scales' column (`Entrywise`, proved elsewhere);
  from that alone the run leaves in the result array `val` of the arguments at every entry, although the last row block
  overhangs the arrays and the operand scratch is built once for sixteen column blocks.
-/
module

public import proofs.«01_k».proof.Proof.KernelIdeal.Windows

@[expose] public section

set_option maxRecDepth 16384

noncomputable section

namespace Cert.KernelIdeal.ValueRun

open Cert.KernelIdeal Cert.KernelIdeal.Gen Cert.KernelIdeal.Body Cert.KernelIdeal.Blocks Cert.KernelIdeal.Windows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A value of one entry: from the token's 256 bytes, the tables' column and the scales' column. -/
abbrev Val (F : FTy → Type) : Type :=
  (Fin 256 → Elt F .i8) → (Fin 512 → Fin 16 → Elt F .i8) → (Fin 4 → Elt F .f32) → Elt F .bf16

/-- The body's result block is `val` entry by entry. -/
def Entrywise (val : Val F) : Prop := ∀ (X : Vec F S1728x256 .i8) (T : Vec F S512x16x512 .i8) (S : Vec F S4x512 .f32) (r : Fin 1728) (n : Fin 512),
  outOf (lhsOf X) T S (ix2 r n) = val (fun k => X (ix2 r k)) (fun a b => T (ix3 a b n)) (fun g => S (ix2 g n))

variable (m : (ℓ : Loc nD τ sig) → Buf (Elt F) ℓ) (ρ : Dev nD → PrngReg) (val : Val F)

/-- The result array: `val` of the arguments at every entry. -/
def result (c : Dev nD) : Buf (Elt F) ((c : Thread nD τ).loc main_v1) := fun i =>
  val (fun k => V m c main_v0 (ix2 (n0 := 5120) (i 0) k)) (fun a b => V m c main_arg1 (ix3 (n2 := 8192) a b (i 1))) (fun g => V m c main_arg2 (ix2 (n1 := 8192) g (i 1)))

/-- Between the points of one row block the operand scratch holds that row block's operand. -/
def PhiS (c : Dev nD) (n : ℕ) : sProp 𝕄 :=
  iprop(∃ f6 : Bf (F := F) c (Memref.whole cc0_scratch0),
    ⌜n % 16 ≠ 0 → ∃ X, Good m c (n / 16) X ∧ (Memref.whole cc0_scratch0).view.read (Elt F) f6 = lhsOf X⌝
    ∗ pt c (.whole cc0_scratch0) f6 ∗ (∃ f, pt c (.whole cc0_scratch1) f) ∗ (∃ f, pt c (.whole cc0_scratch2) f) ∗ ∃ r, prngReg c r)

/-- The proof data: each input's block left in place, the result's block the result array's. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => Classical.arbitrary _) (iblk m c 0 t)
    | ⟨1, _⟩ => iblk m c 1 t
    | ⟨2, _⟩ => iblk m c 2 t
    | ⟨3, _⟩ => (cfg0.win 3).fill (cfg0.grid.coords t) (fun _ => Classical.arbitrary _) (((cfg0.win 3).blk t).view.read (Elt F) (result m val c))
  Φ t := PhiS m c t.val
  q _ := fullShare
  owed _ := 0

theorem cut0 (c : Dev nD) (t : Fin cfg0.N) : (cfg0.win 0).cut (cfg0.grid.coords t) ((dats m val 0 c).after 0 t) = (dats m val 0 c).blockOf 0 t :=
  (cfg0.win 0).cut_fill _ _ _
theorem cut3 (c : Dev nD) (t : Fin cfg0.N) : (cfg0.win 3).cut (cfg0.grid.coords t) ((dats m val 0 c).after 3 t) = ((cfg0.win 3).blk t).view.read (Elt F) (result m val c) :=
  (cfg0.win 3).cut_fill _ _ _

/-- The codes' buffer holds what a fetch at the point leaves, fetched there or not. -/
theorem before0 (c : Dev nD) (t : Fin cfg0.N) (d) : (dats m val 0 c).before 0 t d = (dats m val 0 c).fetched 0 t d :=
  (dats m val 0 c).before_in_eq_fetched 0 rfl (fun _ => rfl)
    (fun t t' h => funext fun a => by
      have := congrFun h a
      match a with
      | ⟨0, _⟩ =>
        show Pipeline.Clip.of (cc0_transform_0 (grid0.coords t) 0) 1728 5120 = Pipeline.Clip.of (cc0_transform_0 (grid0.coords t') 0) 1728 5120
        exact congrArg (fun k => Pipeline.Clip.of k 1728 5120) this
      | ⟨1, _⟩ => rfl)
    (cut0 m val c) t d

/-- The result block of a point is the result array's block there. -/
theorem out_block (hval : Entrywise val) (c : Dev nD) (t : Fin cfg0.N) (X : Vec F S1728x256 .i8) (hX : Good m c (t.val / 16) X) :
    (cfg0.win 3).cut (cfg0.grid.coords t) (outOf (lhsOf X) (iblk m c 1 t) (iblk m c 2 t)) = ((cfg0.win 3).blk t).view.read (Elt F) (result m val c) := by
  refine cut_eq_read c t _ _ fun r n hr n' hn => ?_
  rw [hval]
  unfold result
  congr 1
  · funext k; exact hX r k hr
  · funext a b; exact iblk1_apply m c t a b n n' hn
  · funext g; exact iblk2_apply m c t g n n' hn

/-- The body's obligation at every point. -/
theorem body_obligation (hval : Entrywise val) (c : Dev nD) : BodyObligationLoose (dats m val 0 c) (defs₀ (F := F)) Variants.none () Set.univ := fun t => by
  rw [bigSep_W0, bigSep_W0]
  simp only
  rw [show (dats m val 0 c).Φ t.succ = PhiS m c (t.val + 1) from rfl, show (dats m val 0 c).Φ t.castSucc = PhiS m c t.val from rfl,
    show (dats m val 0 c).owesAt () t.succ = (dats m val 0 c).owesAt () t.castSucc from rfl]
  unfold PhiS
  have ht : t.val < 48 := t.isLt
  change _ ⊢ wp Idealize.ShloMosaic.frame (wpE (defs₀ (F := F)) Variants.none c none) Set.univ (bodyAt0 t) _
  unfold bodyAt0
  iintro ⟨⟨%f6, %h6, H6, ⟨%f7, H7⟩, ⟨%f8, H8⟩, Hρ⟩, Ho, ⟨%d0, H2⟩, ⟨%d1, H3⟩, ⟨%d2, H4⟩, ⟨%d3, H5⟩⟩
  rw [before0 m val c t d0, before0_1_of m (dats m val 0 c) rfl (fun _ => rfl) t d1, before0_2_of m (dats m val 0 c) rfl (fun _ => rfl) t d2]
  ihave H2 := (pt_of_owns c _ (stage_whole0 0 _) _) $$ H2
  icases H2 with ⟨%f2, %h2, H2⟩
  ihave H3 := (pt_of_owns c _ (stage_whole0 1 _) _) $$ H3
  icases H3 with ⟨%f3, %h3, H3⟩
  ihave H4 := (pt_of_owns c _ (stage_whole0 2 _) _) $$ H4
  icases H4 with ⟨%f4, %h4, H4⟩
  ihave H5 := (pt_of_owns c _ (stage_whole0 3 _) _) $$ H5
  icases H5 with ⟨%f5, -, H5⟩
  have hg : Good m c (t.val / 16) ((dats m val 0 c).fetched 0 t d0) := good_fetched m _ rfl t d0
  by_cases hc : Scalar.cmpi .ne (Scalar.extui (Scalar.cmpi .eq (BitVec.ofNat 32 (grid0.coords t 1).val) 0#32)) 0#32 = 1#1
  · have hcol := (first_iff t).mp hc
    iapply ((runFirst (F := F) c (grid0.coords t) hc _ _ _ _ _ _ _ _ (.whole cc0_scratch0) (Memref.isWhole_whole _) (.whole cc0_scratch1) (Memref.isWhole_whole _)
      (.whole cc0_scratch2) (Memref.isWhole_whole _) f2 f3 f4).2 f5 f6 f7 f8 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, ⟨%g7, H7⟩, ⟨%g8, H8⟩⟩
    isplitl [H6 H7 H8 Hρ]
    · iexists _
      isplitr
      swap
      · isplitl [H6]; · iexact H6
        isplitl [H7]; · iexists _; iexact H7
        isplitl [H8]; · iexists _; iexact H8
        iexact Hρ
      · ipureintro
        intro _
        refine ⟨_, ?_, first_lhs c (grid0.coords t) _ _ _ _ _ _ _ _ _ _ _ _ _ _ f2 f3 f4 hc⟩
        rw [h2, show (t.val + 1) / 16 = t.val / 16 by omega]
        exact hg
    isplitl [Ho]; · iexact Ho
    isplitl [H2]
    · iexists d0
      rw [cut0]
      iapply (owns_of_pt c _ (stage_whole0 0 _) _ _ h2); iexact H2
    isplitl [H3]; · iapply (owns_of_pt c _ (stage_whole0 1 _) _ _ h3); iexact H3
    isplitl [H4]; · iapply (owns_of_pt c _ (stage_whole0 2 _) _ _ h4); iexact H4
    iexists (outOf (lhsOf ((dats m val 0 c).fetched 0 t d0)) (iblk m c 1 t) (iblk m c 2 t))
    rw [cut3, ← out_block m val hval c t _ hg, Window.fill_cut]
    iapply (owns_of_pt c _ (stage_whole0 3 _) _ _ ((first_out c (grid0.coords t) _ _ _ _ _ _ _ _ _ _ _ _ _ _ f2 f3 f4 hc).trans (by rw [h2, h3, h4])))
    iexact H5
  · have hcol : t.val % 16 ≠ 0 := fun h => hc ((first_iff t).mpr h)
    obtain ⟨X, hX, hL⟩ := h6 hcol
    iapply ((runLater (F := F) c (grid0.coords t) hc _ _ _ _ _ _ _ _ (.whole cc0_scratch0) (Memref.isWhole_whole _) (.whole cc0_scratch1) (Memref.isWhole_whole _)
      (.whole cc0_scratch2) (Memref.isWhole_whole _) f3 f4 f6).2 f5 f7 f8 Set.univ _)
    isplitl [H3]; · iexact H3
    isplitl [H4]; · iexact H4
    isplitl [H5]; · iexact H5
    isplitl [H6]; · iexact H6
    isplitl [H7]; · iexact H7
    isplitl [H8]; · iexact H8
    iintro ⟨H3, H4, H5, H6, ⟨%g7, H7⟩, ⟨%g8, H8⟩⟩
    isplitl [H6 H7 H8 Hρ]
    · iexists _
      isplitr
      swap
      · isplitl [H6]; · iexact H6
        isplitl [H7]; · iexists _; iexact H7
        isplitl [H8]; · iexists _; iexact H8
        iexact Hρ
      · ipureintro
        intro hn
        refine ⟨X, ?_, hL⟩
        rw [show (t.val + 1) / 16 = t.val / 16 by omega]
        exact hX
    isplitl [Ho]; · iexact Ho
    isplitl [H2]
    · iexists d0
      rw [cut0]
      iapply (owns_of_pt c _ (stage_whole0 0 _) _ _ h2); iexact H2
    isplitl [H3]; · iapply (owns_of_pt c _ (stage_whole0 1 _) _ _ h3); iexact H3
    isplitl [H4]; · iapply (owns_of_pt c _ (stage_whole0 2 _) _ _ h4); iexact H4
    iexists (outOf (lhsOf X) (iblk m c 1 t) (iblk m c 2 t))
    rw [cut3, ← out_block m val hval c t _ hX, Window.fill_cut]
    iapply (owns_of_pt c _ (stage_whole0 3 _) _ _ ((later_out c (grid0.coords t) _ _ _ _ _ _ _ _ _ _ _ _ _ _ f3 f4 f6 hc).trans (by rw [hL, h3, h4])))
    iexact H5

/-- The result array after the run. -/
theorem final (c : Dev nD) : (dats m val 0 c).arrAt 3 cfg0.N = result m val c :=
  (dats m val 0 c).arrAt_eq_of_cover 3 (result m val c) (fun t _ => cut3 m val c t) (cover c)

/-- What a final state satisfies: the result at its value, the arguments as they were. -/
def Post (r : PUnit × MemSt nD τ sig (Elt F)) : Prop := ∀ c : Dev nD,
  r.2.mem ((c.tc : Thread nD τ).loc main_v2) = shapeCast S8x640x8192 (result m val c) shapeCasts_S5120x8192_S8x640x8192
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- The trailing reshape. -/
theorem tail_v2 (c : Dev nD) : Pipeline.afterTail₀ cfgs (dats m val) 0 (V0 m) [hostOps1] c main_v2
    = shapeCast S8x640x8192 (result m val c) shapeCasts_S5120x8192_S8x640x8192 := by
  have h := Pipeline.withArrays_arr spec0 launch0.win.arr_inj c (V0 m c) (fun w => (dats m val 0 c).arrAt w cfg0.N) 3
  unfold Pipeline.afterTail₀
  simp only [List.flatten_cons, List.flatten_nil, List.append_nil, StableHlo.after_cons, StableHlo.after_nil]
  rw [StableHlo.reshape_result]
  funext i
  exact congrFun (congrArg (fun G => shapeCast S8x640x8192 G shapeCasts_S5120x8192_S8x640x8192) (h.trans (final m val c))) i

/-- The run of the kernel, with its value. -/
theorem run_main (hval : Entrywise val) : θ_run defs (onTc (τ := τ) (main (F := F))) (s₀ m ρ) (Post m val) :=
  Pipeline.θ_run_frame_around_track cfgs (dats m val) 0 launch0 defs₀ Variants.none m ρ main
    (hbody := body_obligation m val hval)
    (hshare := fun c => (dats m val 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      unfold Pipeline.ΦA
      rw [scopedRest0_eq]
      show _ ⊢ PhiS m c 0
      unfold PhiS
      iintro ⟨⟨⟨%f6, H6⟩, H7, H8⟩, Hρ⟩
      iexists f6
      isplitr
      · ipureintro; intro h; exact absurd rfl h
      isplitl [H6]; · iexact H6
      isplitl [H7]; · iexact H7
      isplitl [H8]; · iexact H8
      iexact Hρ)
    (hout := fun c => by
      unfold Pipeline.ΦA
      rw [scopedRest0_eq]
      show PhiS m c _ ⊢ _
      unfold PhiS
      iintro ⟨%f6, -, H6, H7, H8, Hρ⟩
      isplitl [H6 H7 H8]
      · isplitl [H6]; · iexists f6; iexact H6
        isplitl [H7]; · iexact H7
        iexact H8
      iexact Hρ)
    (Q' := Post m val)
    (hQ' := fun r h c =>
      ⟨((h.1 c).2 main_v2 (Pipeline.mem_restRefs_of main_v2 (by decide) (by decide))).trans (tail_v2 m val c),
        ((h.1 c).2 main_arg0 (Pipeline.mem_restRefs_of main_arg0 (by decide) (by decide))).trans (W_main_arg0 m (dats m val) c),
        ((h.1 c).1 1).trans (((dats m val 0 c).arrAt_in 1 rfl _).trans (V_main_arg1 m c)),
        ((h.1 c).1 2).trans (((dats m val 0 c).arrAt_in 2 rfl _).trans (V_main_arg2 m c))⟩)

end Cert.KernelIdeal.ValueRun

end
-- ==== Proof.Math.Sums.lean ====
/-
  The sum over a group's 2048 operand columns. Sixteen consecutive columns belong to one nibble, one column per centroid,
  and the packed one-hot entry leaves of the sixteen products the table entries that the two tokens' nibbles name.
-/
module

public import proofs.«01_k».proof.Proof.Math.Words
public import proofs.«01_k».proof.Proof.Math.Unpack

@[expose] public section

noncomputable section

namespace Cert.Math

open Idealize.ShloMosaic

/-- Nibble `m` of a row of codes: the lower one of byte `m / 2` for an even `m`, the upper one for an odd. -/
def nibAt (x : Fin 256 → BitVec 8) (m : Fin 512) : Fin 16 := nib (x ⟨m.val / 2, by omega⟩) (m.val % 2 = 1)

/-- Nibble `m` of group `g`. -/
def member (g : Fin 4) (m : Fin 128) : Fin 512 := ⟨128 * g.val + m.val, by omega⟩

/-- The sum over group `g` of the table entries a row of codes names. -/
def accum (x : Fin 256 → BitVec 8) (T : Fin 512 → Fin 16 → BitVec 8) (g : Fin 4) : ℤ :=
  ∑ m : Fin 128, (T (member g m) (nibAt x (member g m))).toInt

theorem toInt_bound (b : BitVec 8) : |b.toInt| ≤ 128 := by
  revert b; decide +kernel

theorem accum_bound (x : Fin 256 → BitVec 8) (T : Fin 512 → Fin 16 → BitVec 8) (g : Fin 4) : |accum x T g| ≤ 16384 := by
  unfold accum
  refine (Finset.abs_sum_le_sum_abs _ _).trans ((Finset.sum_le_card_nsmul _ _ 128 fun m _ => toInt_bound _).trans ?_)
  simp

theorem coef_sum (p q : Fin 16) (f : Fin 16 → ℤ) : ∑ c : Fin 16, coef p.val q.val c.val * f c = f p - 256 * f q := by
  have h : ∀ c : Fin 16, coef p.val q.val c.val * f c = (if p = c then f c else 0) + (if q = c then -256 * f c else 0) := by
    intro c
    unfold coef
    rw [add_mul]
    congr 1
    · by_cases e : p = c
      · rw [if_pos e, if_pos (congrArg _ e), one_mul]
      · rw [if_neg e, if_neg (fun h => e (Fin.ext h)), zero_mul]
    · by_cases e : q = c
      · rw [if_pos e, if_pos (congrArg _ e)]
      · rw [if_neg e, if_neg (fun h => e (Fin.ext h)), zero_mul]
  rw [Finset.sum_congr rfl fun c _ => h c, Finset.sum_add_distrib, Finset.sum_ite_eq, Finset.sum_ite_eq]
  simp
  ring

theorem sum_split (f : ℕ → ℤ) : ∑ k : Fin 2048, f k.val = ∑ m : Fin 128, ∑ c : Fin 16, f (16 * m.val + c.val) := by
  rw [← Fintype.sum_prod_type' fun (m : Fin 128) (c : Fin 16) => f (16 * m.val + c.val)]
  refine (Fintype.sum_equiv (finProdFinEquiv (m := 128) (n := 16)) _ _ fun x => ?_).symm
  rw [finProdFinEquiv_apply_val, Nat.add_comm]

/-- Column `k` of group `g`. -/
def column (g : Fin 4) (k : Fin 2048) : Fin 8192 := ⟨2048 * g.val + k.val, by omega⟩

/-- The product at column `j` of group `g`, as an integer. -/
def term (x y : Fin 256 → BitVec 8) (T : Fin 512 → Fin 16 → BitVec 8) (g : Fin 4) (j : ℕ) : ℤ :=
  if hj : j < 2048 then coef (nibAt x (member g ⟨j / 16, by omega⟩)).val (nibAt y (member g ⟨j / 16, by omega⟩)).val (j % 16)
    * (T (member g ⟨j / 16, by omega⟩) ⟨j % 16, Nat.mod_lt _ (by omega)⟩).toInt else 0

theorem packed_sum (x y : Fin 256 → BitVec 8) (T : Fin 512 → Fin 16 → BitVec 8) (g : Fin 4) :
    ∑ k : Fin 2048, ez (coef (nib (x ⟨(column g k).val / 32, by omega⟩) ((column g k).val / 16 % 2 = 1)).val
        (nib (y ⟨(column g k).val / 32, by omega⟩) ((column g k).val / 16 % 2 = 1)).val ((column g k).val % 16))
      * ez (T (member g ⟨k.val / 16, by omega⟩) ⟨k.val % 16, Nat.mod_lt _ (by omega)⟩).toInt
      = ez (accum x T g - 256 * accum y T g) := by
  have h : ∀ k : Fin 2048, ez (coef (nib (x ⟨(column g k).val / 32, by omega⟩) ((column g k).val / 16 % 2 = 1)).val
        (nib (y ⟨(column g k).val / 32, by omega⟩) ((column g k).val / 16 % 2 = 1)).val ((column g k).val % 16))
      * ez (T (member g ⟨k.val / 16, by omega⟩) ⟨k.val % 16, Nat.mod_lt _ (by omega)⟩).toInt
      = ez (term x y T g k.val) := by
    intro k
    have hk := k.isLt
    have e1 : (column g k).val / 32 = (member g ⟨k.val / 16, by omega⟩).val / 2 := by
      show (2048 * g.val + k.val) / 32 = (128 * g.val + k.val / 16) / 2; omega
    have e2 : ((column g k).val / 16 % 2 = 1) = ((member g ⟨k.val / 16, by omega⟩).val % 2 = 1) := by
      show ((2048 * g.val + k.val) / 16 % 2 = 1) = ((128 * g.val + k.val / 16) % 2 = 1); exact propext (by omega)
    have e3 : (column g k).val % 16 = k.val % 16 := by show (2048 * g.val + k.val) % 16 = _; omega
    simp only [e1, e2, e3]
    unfold term
    rw [dif_pos hk, ez_mul]
    rfl
  rw [Finset.sum_congr rfl fun k _ => h k, ez_sum, sum_split (term x y T g)]
  have hm : ∀ m : Fin 128, ∑ c : Fin 16, term x y T g (16 * m.val + c.val)
      = (T (member g m) (nibAt x (member g m))).toInt - 256 * (T (member g m) (nibAt y (member g m))).toInt := by
    intro m
    rw [← coef_sum (nibAt x (member g m)) (nibAt y (member g m)) fun c => (T (member g m) c).toInt]
    refine Finset.sum_congr rfl fun c _ => ?_
    have hj : 16 * m.val + c.val < 2048 := by omega
    have em : (16 * m.val + c.val) / 16 = m.val := by omega
    have ec : (16 * m.val + c.val) % 16 = c.val := by omega
    unfold term
    rw [dif_pos hj]
    simp only [em, ec]
  rw [Finset.sum_congr rfl fun m _ => hm m, Finset.sum_sub_distrib, ← Finset.mul_sum]
  rfl

end Cert.Math

end
-- ==== Proof.KernelIdeal.Entry.lean ====
/-
  The kernel's result block entry by entry, over the extended reals: at every row and column it is the sum over the four
  groups of the group's integer accumulator times the group's scale.
-/
module

public import proofs.«01_k».proof.Proof.KernelIdeal.Operand
public import proofs.«01_k».proof.Proof.KernelIdeal.ValueRun
public import proofs.«01_k».proof.Proof.Math.Sums
public import Idealize.ShloMosaic.Lib.Pointwise.Contract

@[expose] public section

set_option maxRecDepth 16384

noncomputable section

namespace Cert.KernelIdeal.Entry

open Cert.KernelIdeal Cert.KernelIdeal.Gen Cert.KernelIdeal.Tiles Cert.Math
open Idealize.ShloMosaic hiding ix2 ix3 eq_ix2
open Idealize.ShloMosaic.ValueIdx

/-- The value of one entry. -/
def val : ValueRun.Val Ideal := fun x T s =>
  ez (accum x T 3) * s 3 + (ez (accum x T 2) * s 2 + (ez (accum x T 1) * s 1 + ez (accum x T 0) * s 0))

theorem dot_apply (l : Vec Ideal S1152x2048 .bf16) (t : Vec Ideal S2048x512 .bf16) (R : Fin 1152) (n : Fin 512) :
    k0_pay505 l t (ix2 R n) = ∑ k : Fin 2048, l (ix2 R k) * t (ix2 k n) := by
  show Ideal.matmul dot_S1152x2048_S2048x512_S1152x512_1_0_0_1_n_n l t (fun _ => Ideal.ofBits .f32 0x00000000#32) (ix2 R n) = _
  refine (Ideal.matmul_apply₁_of dot_S1152x2048_S2048x512_S1152x512_1_0_0_1_n_n (a := 1) rfl (K := 2048) rfl l t _ _ (fun k => ix2 R k) (fun k => ix2 k n)
    (fun k => ?_) (fun k => ?_)).trans ?_
  · funext a; fin_cases a <;> rfl
  · funext a; fin_cases a <;> rfl
  · rw [ofBits_zero]
    exact (congrArg (· + _) (by simp [ez])).trans (zero_add _)

theorem table_apply (t : Vec Ideal S128x16x512 .i8) (k : Fin 2048) (n : Fin 512) :
    k0_pay504 (F := Ideal) t (ix2 k n) = ez (t (ix3 (⟨k.val / 16, by omega⟩ : Fin 128) (⟨k.val % 16, Nat.mod_lt _ (by omega)⟩ : Fin 16) n)).toInt := by
  unfold k0_pay504
  rw [shapeCast_self]
  show ez (shapeCast S2048x512 t shapeCasts_S128x16x512_S2048x512 (ix2 k n)).toInt = _
  rw [shapeCast_apply t shapeCasts_S128x16x512_S2048x512 _ (ix3 (⟨k.val / 16, by omega⟩ : Fin 128) (⟨k.val % 16, Nat.mod_lt _ (by omega)⟩ : Fin 16) n)]
  refine (Shape.rowMajor_val_three _).trans (Eq.trans ?_ (Shape.rowMajor_val_two _).symm)
  show (k.val / 16 * 16 + k.val % 16) * 512 + n.val = k.val * 512 + n.val
  omega

section
variable (X : Vec Ideal S1728x256 .i8) (T : Vec Ideal S512x16x512 .i8) (S : Vec Ideal S4x512 .f32) (g : Fin 4)
  (r : Fin 576) (n : Fin 512)

/-- Group `g`'s operand, tables and scales. -/
abbrev opd : Vec Ideal S1152x2048 .bf16 := View.ld (Val := Elt Ideal) (e' := .bf16) (Blocks.lhsOf X) (Groups.rectL g)
abbrev tab : Vec Ideal S128x16x512 .i8 := View.ld (Val := Elt Ideal) (e' := .i8) T (Groups.rectT g)
abbrev scl : Vec Ideal S1x512 .f32 := View.ld (Val := Elt Ideal) (e' := .f32) S (Groups.rectS g)

/-- A token's accumulator. -/
def acc (s : ℕ) (hs : s < 3) : ℤ := accum (fun k => X (ix2 (tok s hs r) k)) (fun a b => T (ix3 a b n)) g

theorem opd_apply (R : Fin 1152) (k : Fin 2048) : opd X g (ix2 R k) = Blocks.lhsOf X (ix2 R (Math.column g k)) := by
  refine congrArg (Blocks.lhsOf X) (funext fun a => Fin.ext ?_)
  fin_cases a
  · show 0 + 1 * R.val = R.val; omega
  · show 2048 * g.val + 1 * k.val = 2048 * g.val + k.val; omega
theorem tab_apply (a : Fin 128) (b : Fin 16) : tab T g (ix3 a b n) = T (ix3 (member g a) b n) := by
  refine congrArg T (funext fun i => Fin.ext ?_)
  fin_cases i
  · show 128 * g.val + 1 * a.val = 128 * g.val + a.val; omega
  · show 0 + 1 * b.val = b.val; omega
  · show 0 + 1 * n.val = n.val; omega
theorem scl_apply : scl S g (ix2 (0 : Fin 1) n) = S (ix2 g n) := by
  refine congrArg S (funext fun i => Fin.ext ?_)
  fin_cases i
  · show g.val + 1 * 0 = g.val; omega
  · show 0 + 1 * n.val = n.val; omega

theorem dot_upper : k0_pay505 (opd X g) (k0_pay504 (tab T g)) (ix2 (⟨r.val, by omega⟩ : Fin 1152) n)
    = ez (acc X T g r n 0 (by omega) - 256 * acc X T g r n 1 (by omega)) := by
  rw [dot_apply]
  refine Eq.trans (Finset.sum_congr rfl fun k _ => ?_) (packed_sum _ _ _ g)
  rw [opd_apply, lhs_upper, table_apply, tab_apply]
  rfl
theorem dot_lower : k0_pay505 (opd X g) (k0_pay504 (tab T g)) (ix2 (⟨576 + r.val, by omega⟩ : Fin 1152) n)
    = ez (acc X T g r n 2 (by omega) - 256 * acc X T g r n 0 (by omega)) := by
  rw [dot_apply]
  refine Eq.trans (Finset.sum_congr rfl fun k _ => ?_) (packed_sum _ _ _ g)
  rw [opd_apply, lhs_lower, table_apply, tab_apply]
  rfl

theorem r1_apply : k0_pay506 (opd X g) (k0_pay504 (tab T g)) (ix2 r n)
    = ez (acc X T g r n 0 (by omega) - 256 * acc X T g r n 1 (by omega)) := by
  rw [← dot_upper]
  show extractStridedSlice S576x512 ![0, 0] (k0_pay505 (opd X g) (k0_pay504 (tab T g))) slices_S1152x512_o0_0_S576x512 (ix2 r n) = _
  refine extractStridedSlice_apply _ _ slices_S1152x512_o0_0_S576x512 _ _ fun a => ?_
  fin_cases a
  · exact (Nat.zero_add _).symm
  · exact (Nat.zero_add _).symm
theorem r2_apply : extractStridedSlice S576x512 ![576, 0] (k0_pay505 (opd X g) (k0_pay504 (tab T g))) slices_S1152x512_o576_0_S576x512 (ix2 r n)
    = ez (acc X T g r n 2 (by omega) - 256 * acc X T g r n 0 (by omega)) := by
  rw [← dot_lower]
  refine extractStridedSlice_apply _ _ slices_S1152x512_o576_0_S576x512 _ _ fun a => ?_
  fin_cases a
  · rfl
  · exact (Nat.zero_add _).symm

theorem low_apply : k0_pay507 (opd X g) (k0_pay504 (tab T g)) (ix2 r n) = low (ez (acc X T g r n 0 (by omega) - 256 * acc X T g r n 1 (by omega))) := by
  rw [← r1_apply]; rfl
theorem mixed_apply : k0_pay508 (opd X g) (k0_pay504 (tab T g)) (ix2 r n)
    = mixed (ez (acc X T g r n 0 (by omega) - 256 * acc X T g r n 1 (by omega))) (ez (acc X T g r n 2 (by omega) - 256 * acc X T g r n 0 (by omega))) := by
  unfold mixed
  rw [← low_apply, ← r2_apply]; rfl
theorem pick_apply : k0_pay509 (opd X g) (k0_pay504 (tab T g)) (ix2 r n)
    = pick (ez (acc X T g r n 0 (by omega) - 256 * acc X T g r n 1 (by omega))) (ez (acc X T g r n 2 (by omega) - 256 * acc X T g r n 0 (by omega))) := by
  unfold pick
  rw [← mixed_apply]; rfl

theorem third_apply : k0_pay510 (opd X g) (k0_pay504 (tab T g)) (ix2 r n) = ez (acc X T g r n 2 (by omega)) := by
  rw [← third_eq (acc X T g r n 0 (by omega)) (acc X T g r n 1 (by omega)) (acc X T g r n 2 (by omega)) (accum_bound _ _ g), ← mixed_apply, ← pick_apply]; rfl
theorem first_apply : k0_pay511 (opd X g) (k0_pay504 (tab T g)) (ix2 r n) = ez (acc X T g r n 0 (by omega)) := by
  rw [← first_eq (acc X T g r n 0 (by omega)) (acc X T g r n 1 (by omega)) (acc X T g r n 2 (by omega)) (accum_bound _ _ g), ← low_apply, ← pick_apply]; rfl

theorem scale_apply (s : Vec Ideal S1x512 .f32) : broadcastTo S576x512 s broadcasts_S1x512_S576x512 (ix2 r n) = s (ix2 (0 : Fin 1) n) := by
  refine broadcastTo_apply s _ _ _ fun a => ?_
  fin_cases a <;> rfl

theorem addA_apply : Groups.addA (opd X g) (tab T g) (scl S g) (ix2 r n) = ez (acc X T g r n 0 (by omega)) * S (ix2 g n) := by
  rw [← first_apply, ← scl_apply S g n, ← scale_apply r n (scl S g)]; rfl
theorem addC_apply : Groups.addC (opd X g) (tab T g) (scl S g) (ix2 r n) = ez (acc X T g r n 2 (by omega)) * S (ix2 g n) := by
  rw [← third_apply, ← scl_apply S g n, ← scale_apply r n (scl S g)]; rfl
theorem addB_apply : Groups.addB (opd X g) (tab T g) (scl S g) (ix2 r n) = ez (acc X T g r n 1 (by omega)) * S (ix2 g n) := by
  rw [← second_eq (acc X T g r n 0 (by omega)), ← first_apply, ← r1_apply, ← scl_apply S g n]
  unfold Groups.addB
  show _ * broadcastTo S576x512 _ _ (ix2 r n) = _
  rw [scale_apply]; rfl
end

theorem total_apply (x : Fin 4 → FVec Ideal S576x512 .f32) (i : S576x512.Idx) :
    Groups.total x i = x 3 i + (x 2 i + (x 1 i + x 0 i)) := by
  unfold Groups.total
  rw [shapeCast_self, shapeCast_self, shapeCast_self]; rfl

/-- The result block as one function of row and column. -/
def block (X : Vec Ideal S1728x256 .i8) (T : Vec Ideal S512x16x512 .i8) (S : Vec Ideal S4x512 .f32) (y : S1728x512.Idx) : EReal :=
  val (fun k => X (ix2 (n0 := 1728) (y 0) k)) (fun a b => T (ix3 (n2 := 512) a b (y 1))) (fun g => S (ix2 (n1 := 512) g (y 1)))

/-- It is what each of the three stores writes at its rows. -/
theorem block_eq (X : Vec Ideal S1728x256 .i8) (T : Vec Ideal S512x16x512 .i8) (S : Vec Ideal S4x512 .f32) (s : ℕ) (hs : s < 3)
    (add : Vec Ideal S1152x2048 .bf16 → Vec Ideal S128x16x512 .i8 → Vec Ideal S1x512 .f32 → FVec Ideal S576x512 .f32)
    (hadd : ∀ g r n, add (opd X g) (tab T g) (scl S g) (ix2 r n) = ez (acc X T g r n s hs) * S (ix2 g n))
    (r : Fin 576) (n : Fin 512) (y : S1728x512.Idx) (h0 : (y 0).val = r.val + 576 * s) (h1 : (y 1).val = n.val) :
    Groups.total (fun g => add (opd X g) (tab T g) (scl S g)) (ix2 r n) = block X T S y := by
  have e : y = ix2 (tok s hs r) n := by
    funext a; fin_cases a
    · exact Fin.ext h0
    · exact Fin.ext h1
  rw [total_apply, e]
  simp only [hadd]
  rfl

/-- The result block, third by third. -/
theorem entrywise : ValueRun.Entrywise val := by
  intro X T S r n
  refine View.canon_apply_of_pieces (Val := Elt Ideal) (S := S1728x512) (e := .bf16) (block X T S) _ ?_ (ix2 r n) ?_
  · intro p hp x
    rcases List.mem_cons.mp hp with rfl | hp
    · refine Eq.trans (congrArg _ (eq_ix2 x)) (block_eq X T S 2 (by omega) Groups.addC (fun g r n => addC_apply X T S g r n) (x 0) (x 1) _ ?_ ?_)
      · show 1152 + 1 * (x 0).val = (x 0).val + 1152; omega
      · show 0 + 1 * (x 1).val = (x 1).val; omega
    rcases List.mem_cons.mp hp with rfl | hp
    · refine Eq.trans (congrArg _ (eq_ix2 x)) (block_eq X T S 1 (by omega) Groups.addB (fun g r n => addB_apply X T S g r n) (x 0) (x 1) _ ?_ ?_)
      · show 576 + 1 * (x 0).val = (x 0).val + 576; omega
      · show 0 + 1 * (x 1).val = (x 1).val; omega
    rcases List.mem_cons.mp hp with rfl | hp
    · refine Eq.trans (congrArg _ (eq_ix2 x)) (block_eq X T S 0 (by omega) Groups.addA (fun g r n => addA_apply X T S g r n) (x 0) (x 1) _ ?_ ?_)
      · show 0 + 1 * (x 0).val = (x 0).val + 0; omega
      · show 0 + 1 * (x 1).val = (x 1).val; omega
    nomatch hp
  · have hr := r.isLt
    have hn := n.isLt
    by_cases h2 : 1152 ≤ r.val
    · refine ⟨_, List.mem_cons_self, ?_⟩
      rw [Rect.mem_set_unit]
      intro a
      match a with
      | ⟨0, _⟩ => show 1152 ≤ r.val ∧ r.val < 1152 + 576; omega
      | ⟨1, _⟩ => show 0 ≤ n.val ∧ n.val < 0 + 512; omega
    by_cases h1 : 576 ≤ r.val
    · refine ⟨_, List.mem_cons_of_mem _ List.mem_cons_self, ?_⟩
      rw [Rect.mem_set_unit]
      intro a
      match a with
      | ⟨0, _⟩ => show 576 ≤ r.val ∧ r.val < 576 + 576; omega
      | ⟨1, _⟩ => show 0 ≤ n.val ∧ n.val < 0 + 512; omega
    · refine ⟨_, List.mem_cons_of_mem _ (List.mem_cons_of_mem _ List.mem_cons_self), ?_⟩
      rw [Rect.mem_set_unit]
      intro a
      match a with
      | ⟨0, _⟩ => show 0 ≤ r.val ∧ r.val < 0 + 576; omega
      | ⟨1, _⟩ => show 0 ≤ n.val ∧ n.val < 0 + 512; omega

end Cert.KernelIdeal.Entry

end
-- ==== Proof.KernelIdeal.Result.lean ====
/-
  The kernel's result by token: the two host reshapes take token `s` of batch `b` to row `640 b + s` and back.
-/
module

public import proofs.«01_k».proof.Proof.KernelIdeal.ValueRun

@[expose] public section

set_option maxRecDepth 16384

noncomputable section

namespace Cert.KernelIdeal.Result

open Cert.KernelIdeal Cert.KernelIdeal.Gen Cert.KernelIdeal.ValueRun
open Idealize.ShloMosaic Idealize.ShloMosaic.TcCoe Idealize.ShloMosaic.ValueIdx

variable {F : FTy → Type} [FloatOps F] (m : (ℓ : Loc nD τ sig) → Buf (Elt F) ℓ)

/-- The row of token `s` of batch `b`. -/
def row (b : Fin 8) (s : Fin 640) : Fin 5120 := ⟨640 * b.val + s.val, by omega⟩

theorem ix3_zero {n0 n1 n2 : ℕ} (a : Fin n0) (b : Fin n1) (k : Fin n2) : ix3 a b k 0 = a := rfl

/-- The leading reshape. -/
theorem head_v0 (c : Dev nD) : V m c main_v0 = shapeCast S5120x256 (m ((c.tc : Thread nD τ).loc main_arg0)) shapeCasts_S8x640x256_S5120x256 := by
  unfold V V0
  simp only [List.flatten_cons, List.flatten_nil, List.append_nil, StableHlo.after_cons, StableHlo.after_nil]
  rw [StableHlo.reshape_result]
  rfl

theorem result_apply (val : Val F) (c : Dev nD) (b : Fin 8) (s : Fin 640) (n : Fin 8192) :
    shapeCast S8x640x8192 (result m val c) shapeCasts_S5120x8192_S8x640x8192 (ix3 b s n)
      = val (fun k => m ((c.tc : Thread nD τ).loc main_arg0) (ix3 (n0 := 8) (n1 := 640) (n2 := 256) b s k))
          (fun a d => m ((c.tc : Thread nD τ).loc main_arg1) (ix3 (n0 := 512) (n1 := 16) (n2 := 8192) a d n))
          (fun g => m ((c.tc : Thread nD τ).loc main_arg2) (ix2 (n0 := 4) (n1 := 8192) g n)) := by
  rw [shapeCast_apply (s := S5120x8192) (t := S8x640x8192) (result m val c) shapeCasts_S5120x8192_S8x640x8192 (ix3 b s n) (ix2 (row b s) n)
    (by rw [Shape.rowMajor_val_two, Shape.rowMajor_val_three]; simp [row, ix3_zero]; omega)]
  unfold result
  rw [head_v0, V_main_arg1, V_main_arg2]
  congr 1
  funext k
  exact shapeCast_apply (s := S8x640x256) (t := S5120x256) (m ((c.tc : Thread nD τ).loc main_arg0)) shapeCasts_S8x640x256_S5120x256 (ix2 (row b s) k) (ix3 b s k)
    (by rw [Shape.rowMajor_val_two, Shape.rowMajor_val_three]; simp [row, ix3_zero]; omega)

end Cert.KernelIdeal.Result

end
-- ==== Proof.ReferenceIdeal.Run.lean ====
/-
  The reference's run. Its side conditions are decided, and its result is written as a composition of the stages its text
  names: the codes' nibbles, their one-hot forms, the tables' even and odd entries, the integer sums and the scaling.
-/
module

public import proofs.«01_k».proof.ReferenceIdeal
public import Idealize.ShloMosaic.Lib.Decide
public import Idealize.ShloMosaic.Lib.Claim
public import Idealize.ShloMosaic.Lib.Quiescent
public import Idealize.ShloMosaic.PureOps.Ideal
public import Idealize.ShloMosaic.PureOps.Ideal.Laws

@[expose] public section

set_option maxRecDepth 16384

noncomputable section

namespace Cert.ReferenceIdeal.Run

open Idealize.ShloMosaic Idealize.SL.Sem Idealize.ShloMosaic.TcCoe

instance facts₀ : Cert.ReferenceIdeal.Facts₀ where
  natLt_8_32 := by decide
  bcast_S_S8x640x256 := by decide
  shapeCasts_S8x640x256_S8x640x4x64 := by decide
  bcast_S8x640x4x64_S8x640x4x64x1_0_1_2_3 := by decide
  bcast_S8x640x4x64x1_S8x640x4x64x16_0_1_2_3_4 := by decide
  bcast_S1x1x1x1x16_S8x640x4x64x16_0_1_2_3_4 := by decide
  natLt_1_32 := by decide
  shapeCasts_S512x16x8192_S4x64x2x16x8192 := by decide
  slices_S4x64x2x16x8192_S4x64x1x16x8192_0_0_0_0_0 := by decide
  shapeCasts_S4x64x1x16x8192_S4x64x16x8192 := by decide
  slices_S4x64x2x16x8192_S4x64x1x16x8192_0_0_1_0_0 := by decide
  bcast_S8x640x4x64x16_S8x640x4x64x16x1_0_1_2_3_4 := by decide
  bcast_S4x64x16x8192_S1x1x4x64x16x8192_2_3_4_5 := by decide
  bcast_S8x640x4x64x16x1_S8x640x4x64x16x8192_0_1_2_3_4_5 := by decide
  bcast_S1x1x4x64x16x8192_S8x640x4x64x16x8192_0_1_2_3_4_5 := by decide
  reducesTo_S8x640x4x64x16x8192_S8x640x4x8192_d3_4 := by decide
  h_S_ := by decide
  transposes_S8192x8x640_S8x640x8192_1_2_0 := by decide
  bitsLt_bf16_f32 := by decide
  dot_S4x8192_S8x640x4x8192_S8192x8x640_0_2_n_01_1_3_wf := by decide

instance facts : Cert.ReferenceIdeal.Facts where

open Cert.ReferenceIdeal Cert.ReferenceIdeal.Facts₀

/-- The codes as words, and their two nibbles by group and byte. -/
def codes (x : IVec S8x640x256 8) : IVec S8x640x256 32 := extui 32 x natLt_8_32
def lowNib (x : IVec S8x640x256 8) : IVec S8x640x4x64 32 :=
  shapeCast S8x640x4x64 (andi (codes x) (broadcastInDim S8x640x256 ![] bcast_S_S8x640x256 (constantI S_ 32 15#32))) shapeCasts_S8x640x256_S8x640x4x64
def highNib (x : IVec S8x640x256 8) : IVec S8x640x4x64 32 :=
  shapeCast S8x640x4x64 (Host.shrsi (codes x) (broadcastInDim S8x640x256 ![] bcast_S_S8x640x256 (constantI S_ 32 4#32))) shapeCasts_S8x640x256_S8x640x4x64

/-- One where the nibble is the centroid, else zero. -/
def oneHot (z : IVec S8x640x4x64 32) : IVec S8x640x4x64x16 32 :=
  extui 32 (cmpi .eq
    (broadcastInDim S8x640x4x64x16 ![0, 1, 2, 3, 4] bcast_S8x640x4x64x1_S8x640x4x64x16_0_1_2_3_4
      (broadcastInDim S8x640x4x64x1 ![0, 1, 2, 3] bcast_S8x640x4x64_S8x640x4x64x1_0_1_2_3 z))
    (broadcastInDim S8x640x4x64x16 ![0, 1, 2, 3, 4] bcast_S1x1x1x1x16_S8x640x4x64x16_0_1_2_3_4 (iotaInDim S1x1x1x1x16 32 4))) natLt_1_32

/-- The tables as words by group, byte and nibble; the lower nibbles' and the upper nibbles'. -/
def tables (t : IVec S512x16x8192 8) : IVec S4x64x2x16x8192 32 :=
  shapeCast S4x64x2x16x8192 (extsi 32 t natLt_8_32 : IVec S512x16x8192 32) shapeCasts_S512x16x8192_S4x64x2x16x8192
def evenTab (t : IVec S512x16x8192 8) : IVec S4x64x16x8192 32 :=
  shapeCast S4x64x16x8192 (extractStridedSlice S4x64x1x16x8192 ![0, 0, 0, 0, 0] (tables t) slices_S4x64x2x16x8192_S4x64x1x16x8192_0_0_0_0_0) shapeCasts_S4x64x1x16x8192_S4x64x16x8192
def oddTab (t : IVec S512x16x8192 8) : IVec S4x64x16x8192 32 :=
  shapeCast S4x64x16x8192 (extractStridedSlice S4x64x1x16x8192 ![0, 0, 1, 0, 0] (tables t) slices_S4x64x2x16x8192_S4x64x1x16x8192_0_0_1_0_0) shapeCasts_S4x64x1x16x8192_S4x64x16x8192

/-- The products of one-hots and tables, and their sum over bytes and centroids. -/
def prods (o : IVec S8x640x4x64x16 32) (t : IVec S4x64x16x8192 32) : IVec S8x640x4x64x16x8192 32 :=
  muli (broadcastInDim S8x640x4x64x16x8192 ![0, 1, 2, 3, 4, 5] bcast_S8x640x4x64x16x1_S8x640x4x64x16x8192_0_1_2_3_4_5
      (broadcastInDim S8x640x4x64x16x1 ![0, 1, 2, 3, 4] bcast_S8x640x4x64x16_S8x640x4x64x16x1_0_1_2_3_4 o))
    (broadcastInDim S8x640x4x64x16x8192 ![0, 1, 2, 3, 4, 5] bcast_S1x1x4x64x16x8192_S8x640x4x64x16x8192_0_1_2_3_4_5
      (broadcastInDim S1x1x4x64x16x8192 ![2, 3, 4, 5] bcast_S4x64x16x8192_S1x1x4x64x16x8192_2_3_4_5 t))
def sums (o : IVec S8x640x4x64x16 32) (t : IVec S4x64x16x8192 32) : IVec S8x640x4x8192 32 :=
  Host.reduce IntOp.addi (prods o t) (constantI S_ 32 0#32) reducesTo_S8x640x4x64x16x8192_S8x640x4x8192_d3_4 h_S_

/-- The groups' integer accumulators. -/
def accs (x : IVec S8x640x256 8) (t : IVec S512x16x8192 8) : IVec S8x640x4x8192 32 :=
  addi (sums (oneHot (lowNib x)) (evenTab t)) (sums (oneHot (highNib x)) (oddTab t))

/-- The result: the accumulators scaled and added up over the groups. -/
def out (x : IVec S8x640x256 8) (t : IVec S512x16x8192 8) (s : FVec Ideal S4x8192 .f32) : FVec Ideal S8x640x8192 .bf16 :=
  truncf .bf16 (transpose S8x640x8192 [1, 2, 0] (Host.dotGeneral dot_S4x8192_S8x640x4x8192_S8192x8x640_0_2_n_01_1_3 (some .fp32) s (sitofp .f32 (accs x t)))
    transposes_S8192x8x640_S8x640x8192_1_2_0) bitsLt_bf16_f32

variable (m : (ℓ : Loc nD τ sig) → Buf (Elt Ideal) ℓ) (g : Dev nD → PrngReg)

/-- Every run ends with the result in its array and the arguments unchanged. -/
theorem run_main : θ_run (defs (F := Ideal)) (onTc (τ := τ) (main (F := Ideal))) ⟨m, fun _ => 0, g⟩ (fun r => ∀ c : Dev nD,
      r.2.mem ((c.tc : Thread nD τ).loc main_v31) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  rfl

/-- And with every counter at zero, for there is none. -/
theorem run_quiescent : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run_main m g) fun r h => ⟨fun c => (h c).2, sem_eq_zero_of_no_sems (by decide) r.2⟩

end Cert.ReferenceIdeal.Run

end
-- ==== Proof.ReferenceIdeal.Stages.lean ====
/-
  The stages of the reference at an index: the nibbles of a code, their one-hot forms, and the table entries they meet.
-/
module

public import proofs.«01_k».proof.Proof.ReferenceIdeal.Run
public import proofs.«01_k».proof.Proof.Math.Sums
public import Idealize.ShloMosaic.Lib.Pointwise

@[expose] public section

noncomputable section

namespace Cert.ReferenceIdeal.Stages

open Idealize.ShloMosaic Cert.ReferenceIdeal Cert.ReferenceIdeal.Run Cert.Math

/-- Byte `j` of group `g`. -/
def byteAt (g : Fin 4) (j : Fin 64) : Fin 256 := ⟨64 * g.val + j.val, by omega⟩

/-- Table `2 (64 g + j)` or `2 (64 g + j) + 1`. -/
def tableAt (g : Fin 4) (j : Fin 64) (p : Fin 2) : Fin 512 := ⟨128 * g.val + 2 * j.val + p.val, by omega⟩

theorem shift_right (a : BitVec 8) : IntOp.shrsi .host (a.setWidth 32) 4#32 = BitVec.ofNat 32 (a.toNat / 16) := by
  revert a; decide +kernel

theorem lowNib_apply (x : IVec S8x640x256 8) (b : Fin 8) (s : Fin 640) (g : Fin 4) (j : Fin 64) :
    lowNib x (ix4 b s g j) = BitVec.ofNat 32 (nib (x (ix3 b s (byteAt g j))) False).val := by
  unfold lowNib
  rw [shapeCast_apply _ _ (ix4 b s g j) (ix3 b s (byteAt g j))]
  · exact low_nibble _
  · rw [Shape.rowMajor_val_three, Shape.rowMajor_val_four]
    simp [byteAt]
    omega

theorem highNib_apply (x : IVec S8x640x256 8) (b : Fin 8) (s : Fin 640) (g : Fin 4) (j : Fin 64) :
    highNib x (ix4 b s g j) = BitVec.ofNat 32 (nib (x (ix3 b s (byteAt g j))) True).val := by
  unfold highNib
  rw [shapeCast_apply _ _ (ix4 b s g j) (ix3 b s (byteAt g j))]
  · exact shift_right _
  · rw [Shape.rowMajor_val_three, Shape.rowMajor_val_four]
    simp [byteAt]
    omega

theorem oneHot_apply (z : IVec S8x640x4x64 32) (b : Fin 8) (s : Fin 640) (g : Fin 4) (j : Fin 64) (c : Fin 16) (n : Fin 16)
    (hz : z (ix4 b s g j) = BitVec.ofNat 32 n.val) :
    oneHot z (ix5 b s g j c) = if n = c then 1#32 else 0#32 := by
  have h : oneHot z (ix5 b s g j c) = (IntOp.cmpi .eq (z (ix4 b s g j)) (BitVec.ofNat 32 c.val)).setWidth 32 := by
    pointwise [oneHot]
  rw [h, hz, cmp_nib n c.val c.isLt]
  by_cases e : n = c
  · rw [if_pos e, if_pos (congrArg _ e)]; rfl
  · rw [if_neg e, if_neg fun h => e (Fin.ext h)]; rfl

theorem evenTab_apply (t : IVec S512x16x8192 8) (g : Fin 4) (j : Fin 64) (c : Fin 16) (n : Fin 8192) :
    evenTab t (ix4 g j c n) = (t (ix3 (tableAt g j 0) c n)).signExtend 32 := by
  unfold evenTab
  rw [shapeCast_apply _ _ (ix4 g j c n) (ix5 g j (0 : Fin 1) c n),
    extractStridedSlice_apply _ _ _ _ (ix5 g j (0 : Fin 2) c n)]
  · unfold tables
    rw [shapeCast_apply _ _ _ (ix3 (tableAt g j 0) c n)]
    · rfl
    · rw [Shape.rowMajor_val_three, Shape.rowMajor_val_five]
      simp [tableAt]
      omega
  · intro a; fin_cases a <;> simp
  · rw [Shape.rowMajor_val_four, Shape.rowMajor_val_five]
    simp

theorem oddTab_apply (t : IVec S512x16x8192 8) (g : Fin 4) (j : Fin 64) (c : Fin 16) (n : Fin 8192) :
    oddTab t (ix4 g j c n) = (t (ix3 (tableAt g j 1) c n)).signExtend 32 := by
  unfold oddTab
  rw [shapeCast_apply _ _ (ix4 g j c n) (ix5 g j (0 : Fin 1) c n),
    extractStridedSlice_apply _ _ _ _ (ix5 g j (1 : Fin 2) c n)]
  · unfold tables
    rw [shapeCast_apply _ _ _ (ix3 (tableAt g j 1) c n)]
    · rfl
    · rw [Shape.rowMajor_val_three, Shape.rowMajor_val_five]
      simp [tableAt]
      omega
  · intro a; fin_cases a <;> simp
  · rw [Shape.rowMajor_val_four, Shape.rowMajor_val_five]
    simp

theorem prods_apply (o : IVec S8x640x4x64x16 32) (t : IVec S4x64x16x8192 32) (b : Fin 8) (s : Fin 640) (g : Fin 4) (j : Fin 64)
    (c : Fin 16) (n : Fin 8192) : prods o t (ix6 b s g j c n) = o (ix5 b s g j c) * t (ix4 g j c n) := by
  pointwise [prods]
  rfl

/-- The sum at an index runs over the bytes of the group and the centroids. -/
theorem sums_eq_fold (o : IVec S8x640x4x64x16 32) (t : IVec S4x64x16x8192 32) (b : Fin 8) (s : Fin 640) (g : Fin 4) (n : Fin 8192) :
    sums o t (ix4 b s g n) = (Finset.univ : Finset (Fin 64 × Fin 16)).fold IntOp.addi 0#32 fun k => prods o t (ix6 b s g k.1 k.2 n) := by
  have hR := Facts₀.reducesTo_S8x640x4x64x16x8192_S8x640x4x8192_d3_4
  unfold sums
  rw [Host.reduce_eq_fold]
  refine Finset.fold_filter_eq_fold_of_fiber IntOp.addi _ (fun k : Fin 64 × Fin 16 => ix6 b s g k.1 k.2 n) ?_ ?_ _ _
  · intro p q e
    exact Prod.ext (congrFun e 3) (congrFun e 4)
  · intro i
    constructor
    · intro h
      refine ⟨(i 3, i 4), ?_⟩
      have h' : ∀ a, (hR.drop i a : Nat) = ix4 b s g n a := fun a => by rw [h]
      have h0 := h' 0
      have h1 := h' 1
      have h2 := h' 2
      have h3 := h' 3
      rw [hR.drop_apply_val_of_eq i 0 0] at h0
      rw [hR.drop_apply_val_of_eq i 1 1] at h1
      rw [hR.drop_apply_val_of_eq i 2 2] at h2
      rw [hR.drop_apply_val_of_eq i 3 5] at h3
      funext a
      apply Fin.ext
      fin_cases a
      · exact h0.symm
      · exact h1.symm
      · exact h2.symm
      · rfl
      · rfl
      · exact h3.symm
    · rintro ⟨k, rfl⟩
      funext a
      apply Fin.ext
      fin_cases a
      · exact hR.drop_apply_val_of_eq _ 0 0
      · exact hR.drop_apply_val_of_eq _ 1 1
      · exact hR.drop_apply_val_of_eq _ 2 2
      · exact hR.drop_apply_val_of_eq _ 3 5

/-- A sum of words that are integers' words is the word of the integers' sum. -/
theorem fold_addi {κ : Type} [DecidableEq κ] (S : Finset κ) (v : κ → BitVec 32) (w : κ → ℤ) (h : ∀ k, v k = BitVec.ofInt 32 (w k)) :
    S.fold IntOp.addi 0#32 v = BitVec.ofInt 32 (∑ k ∈ S, w k) := by
  induction S using Finset.induction_on with
  | empty => rfl
  | insert a S ha ih =>
    rw [Finset.fold_insert ha, Finset.sum_insert ha, ih, h, BitVec.ofInt_add]
    rfl

/-- The sum of a one-hot against a table is the sum of the entries the nibbles name. -/
theorem sums_apply (z : IVec S8x640x4x64 32) (t : IVec S4x64x16x8192 32) (b : Fin 8) (s : Fin 640) (g : Fin 4) (n : Fin 8192)
    (f : Fin 64 → Fin 16) (T : Fin 64 → Fin 16 → BitVec 8) (hz : ∀ j, z (ix4 b s g j) = BitVec.ofNat 32 (f j).val)
    (ht : ∀ j c, t (ix4 g j c n) = (T j c).signExtend 32) :
    sums (oneHot z) t (ix4 b s g n) = BitVec.ofInt 32 (∑ j, (T j (f j)).toInt) := by
  rw [sums_eq_fold, fold_addi Finset.univ _ fun k : Fin 64 × Fin 16 => if f k.1 = k.2 then (T k.1 k.2).toInt else 0]
  · congr 1
    rw [Fintype.sum_prod_type]
    exact Finset.sum_congr rfl fun j _ => by simp
  · rintro ⟨j, c⟩
    rw [prods_apply, oneHot_apply z b s g j c (f j) (hz j), ht]
    by_cases e : f j = c
    · rw [if_pos e, if_pos e, BitVec.one_mul]; rfl
    · rw [if_neg e, if_neg e, BitVec.zero_mul]; rfl

/-- A group's accumulator is the sum of the table entries its codes name: no sum of 128 entries leaves a word. -/
theorem accs_apply (x : IVec S8x640x256 8) (t : IVec S512x16x8192 8) (b : Fin 8) (s : Fin 640) (g : Fin 4) (n : Fin 8192) :
    (accs x t (ix4 b s g n)).toInt = accum (fun k => x (ix3 b s k)) (fun a c => t (ix3 a c n)) g := by
  have h : accs x t (ix4 b s g n) = BitVec.ofInt 32 (accum (fun k => x (ix3 b s k)) (fun a c => t (ix3 a c n)) g) := by
    have h0 : accs x t (ix4 b s g n)
        = sums (oneHot (lowNib x)) (evenTab t) (ix4 b s g n) + sums (oneHot (highNib x)) (oddTab t) (ix4 b s g n) := rfl
    rw [h0,
      sums_apply _ _ b s g n _ (fun j c => t (ix3 (tableAt g j 0) c n)) (lowNib_apply x b s g) (fun j c => evenTab_apply t g j c n),
      sums_apply _ _ b s g n _ (fun j c => t (ix3 (tableAt g j 1) c n)) (highNib_apply x b s g) (fun j c => oddTab_apply t g j c n),
      ← BitVec.ofInt_add, ← Finset.sum_add_distrib]
    congr 1
    unfold accum
    rw [← Fintype.sum_equiv (finProdFinEquiv (m := 64) (n := 2)) (fun k => (t (ix3 (member g (finProdFinEquiv k)) (nibAt (fun k => x (ix3 b s k)) (member g (finProdFinEquiv k))) n)).toInt) _ (fun _ => rfl),
      Fintype.sum_prod_type]
    refine Finset.sum_congr rfl fun j _ => ?_
    rw [Fin.sum_univ_two]
    have hm : ∀ p : Fin 2, member g (finProdFinEquiv (j, p)) = tableAt g j p := fun p => by
      have e : (finProdFinEquiv (j, p) : Fin (64 * 2)).val = p.val + 2 * j.val := finProdFinEquiv_apply_val (j, p)
      refine Fin.ext ((congrArg (128 * g.val + ·) e).trans ?_)
      simp only [tableAt]
      omega
    have hb : ∀ p : Fin 2, nibAt (fun k => x (ix3 b s k)) (tableAt g j p) = nib (x (ix3 b s (byteAt g j))) (p = 1) := by
      intro p
      have hk : (⟨(tableAt g j p).val / 2, by omega⟩ : Fin 256) = byteAt g j := Fin.ext (by simp [tableAt, byteAt]; omega)
      have hp : ((tableAt g j p).val % 2 = 1) = (p = 1) := propext (by simp [tableAt, Fin.ext_iff]; omega)
      unfold nibAt
      rw [hk]
      unfold nib
      simp only [hp]
    rw [hm, hm, hb, hb]
    simp [nib]
  rw [h, BitVec.toInt_ofInt]
  have := abs_le.1 (accum_bound (fun k => x (ix3 b s k)) (fun a c => t (ix3 a c n)) g)
  rw [Int.bmod_eq_of_le] <;> norm_num <;> omega

end Cert.ReferenceIdeal.Stages

end
-- ==== Proof.ReferenceIdeal.Entry.lean ====
/-
  The reference's result at an index: over the groups, the scale times the sum of the table entries the codes name.
-/
module

public import proofs.«01_k».proof.Proof.ReferenceIdeal.Stages

@[expose] public section

noncomputable section

namespace Cert.ReferenceIdeal.Entry

open Idealize.ShloMosaic Cert.ReferenceIdeal Cert.ReferenceIdeal.Run Cert.ReferenceIdeal.Stages Cert.Math

theorem out_apply (x : IVec S8x640x256 8) (t : IVec S512x16x8192 8) (sc : FVec Ideal S4x8192 .f32) (b : Fin 8) (s : Fin 640) (n : Fin 8192) :
    out x t sc (ix3 b s n)
      = ∑ g : Fin 4, sc (ix2 g n) * ez (accum (fun k => x (ix3 b s k)) (fun a c => t (ix3 a c n)) g) := by
  have h : out x t sc (ix3 b s n) = ∑ g : Fin 4, sc (ix2 g n) * (((accs x t (ix4 b s g n)).toInt : ℝ) : EReal) := by
    pointwise [out]
    rfl
  rw [h]
  exact Finset.sum_congr rfl fun g _ => by rw [accs_apply, ez]

end Cert.ReferenceIdeal.Entry

end
-- ==== Proof.Value.lean ====
/-
  The kernel's result and the reference's, entry by entry: both are the sum over the groups of the scale times the sum of
  the table entries the codes name, added in another order.
-/
module

public import proofs.«01_k».proof.Proof.KernelIdeal.Entry
public import proofs.«01_k».proof.Proof.KernelIdeal.Result
public import proofs.«01_k».proof.Proof.ReferenceIdeal.Entry

@[expose] public section

noncomputable section

namespace Cert.Value

open Idealize.ShloMosaic Idealize.ShloMosaic.TcCoe Cert.Math

variable (m : (ℓ : Loc Cert.KernelIdeal.nD Cert.KernelIdeal.τ Cert.KernelIdeal.sig) → Buf (Elt Ideal) ℓ)

/-- Every index of rank three is given by its coordinates. -/
theorem exists_ix3 {n0 n1 n2 : ℕ} (i : (⟨3, ![n0, n1, n2]⟩ : Shape).Idx) : ∃ a b c, i = Idealize.ShloMosaic.ix3 a b c :=
  ⟨i 0, i 1, i 2, funext fun a => by fin_cases a <;> rfl⟩

theorem eq_ix3 {n0 n1 n2 : ℕ} (a : Fin n0) (b : Fin n1) (c : Fin n2) : ValueIdx.ix3 a b c = Idealize.ShloMosaic.ix3 a b c :=
  funext fun k => by fin_cases k <;> rfl

theorem eq_ix2 {n0 n1 : ℕ} (a : Fin n0) (b : Fin n1) : ValueIdx.ix2 a b = Idealize.ShloMosaic.ix2 a b :=
  funext fun k => by fin_cases k <;> rfl

theorem kernel_eq_reference (c : Dev Cert.KernelIdeal.nD) :
    shapeCast Cert.KernelIdeal.S8x640x8192 (Cert.KernelIdeal.ValueRun.result m Cert.KernelIdeal.Entry.val c)
        Cert.KernelIdeal.Facts₀.shapeCasts_S5120x8192_S8x640x8192
      = Cert.ReferenceIdeal.Run.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨b, s, n, rfl⟩ := exists_ix3 i
  rw [Cert.ReferenceIdeal.Entry.out_apply]
  refine (congrArg _ (eq_ix3 b s n).symm).trans ((Cert.KernelIdeal.Result.result_apply m Cert.KernelIdeal.Entry.val c b s n).trans ?_)
  simp only [eq_ix3, eq_ix2]
  unfold Cert.KernelIdeal.Entry.val
  rw [Fin.sum_univ_four, mul_comm (ez _), mul_comm (ez _), mul_comm (ez _), mul_comm (ez _)]
  abel

end Cert.Value

end
-- ==== Proof.lean ====
/-
  The proof of `Cert.Claim`: the frames of the kernel, of its ideal reading and of the reference, and the equality of the
  two ideal results.
-/
module

public import proofs.«01_k».proof.Defs
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem

/-- From equal arguments the kernel and the reference end with the same result. -/
theorem algebraic : Cert.algebraic_KernelIdeal_ReferenceIdeal (hKernelIdeal := Cert.KernelIdeal.Gen.facts)
    (hReferenceIdeal := Cert.ReferenceIdeal.Run.facts) := fun m g m' g' _ h =>
  ⟨fun c => shapeCast Cert.KernelIdeal.S8x640x8192 (Cert.KernelIdeal.ValueRun.result m Cert.KernelIdeal.Entry.val c)
      Cert.KernelIdeal.Facts₀.shapeCasts_S5120x8192_S8x640x8192,
    Cert.KernelIdeal.ValueRun.run_main m g Cert.KernelIdeal.Entry.val Cert.KernelIdeal.Entry.entrywise,
    θ_run_mono (Cert.ReferenceIdeal.Run.run_main m' g') fun _ hr c => ⟨by
      rw [(hr c).1, (h c).1, (h c).2.1, (h c).2.2]
      exact (Cert.Value.kernel_eq_reference m c).symm, (hr c).2⟩⟩

theorem claim : Cert.Claim := ⟨Cert.Kernel.Gen.facts, Cert.KernelIdeal.Gen.facts, Cert.ReferenceIdeal.Run.facts,
  fun m g _ => Cert.Kernel.Run.run_main m g, fun m g _ => Cert.KernelIdeal.Run.run_main m g,
  fun m g _ => Cert.ReferenceIdeal.Run.run_quiescent m g, trivial, algebraic⟩

end Cert.Proof

end
